-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)) (v2 : (c : Dev Cert.Kernel2Ideal.nD) → Buf (Elt Ideal) ((c.tc : Thread Cert.Kernel2Ideal.nD Cert.Kernel2Ideal.τ).loc Cert.Kernel2Ideal.main_v23_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_v23_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_v33) = v1 c
          ∧ r.2.mem ((c.tc : Thread Cert.Reference2Ideal.nD Cert.Reference2Ideal.τ).loc Cert.Reference2Ideal.main_v34) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)) (v3 : (c : Dev Cert.Kernel3Ideal.nD) → Buf (Elt Ideal) ((c.tc : Thread Cert.Kernel3Ideal.nD Cert.Kernel3Ideal.τ).loc Cert.Kernel3Ideal.main_v11_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_v11_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v46) = v1 c
          ∧ r.2.mem ((c.tc : Thread Cert.Reference3Ideal.nD Cert.Reference3Ideal.τ).loc Cert.Reference3Ideal.main_v47) = v2 c
          ∧ r.2.mem ((c.tc : Thread Cert.Reference3Ideal.nD Cert.Reference3Ideal.τ).loc Cert.Reference3Ideal.main_v48) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hKernel5 : Cert.Kernel5.Facts) (hKernel5Ideal : Cert.Kernel5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel5 (hKernel5 := hKernel5)
    ∧ quiescent_Kernel5Ideal (hKernel5Ideal := hKernel5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ preserves_Kernel5_Kernel5Ideal
-- ==== Kernel.lean ====
abbrev S16384x1024 : Shape := ⟨2, ![16384, 1024]⟩
abbrev S8x128x16384 : Shape := ⟨3, ![8, 128, 16384]⟩
abbrev S1024x16384 : Shape := ⟨2, ![1024, 16384]⟩
abbrev S512x1024 : Shape := ⟨2, ![512, 1024]⟩
abbrev S2048x1024 : Shape := ⟨2, ![2048, 1024]⟩
abbrev S1024x2048 : Shape := ⟨2, ![1024, 2048]⟩
abbrev S8x128x512 : Shape := ⟨3, ![8, 128, 512]⟩
abbrev S1024x512 : Shape := ⟨2, ![1024, 512]⟩
abbrev S2048x512 : Shape := ⟨2, ![2048, 512]⟩
abbrev S1x1x512 : Shape := ⟨3, ![1, 1, 512]⟩
abbrev S1x512 : Shape := ⟨2, ![1, 512]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 12
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S8x128x16384, .f32⟩
  | .hbm, ⟨5, _⟩ => ⟨S8x128x16384, .f32⟩
  | .hbm, ⟨6, _⟩ => ⟨S8x128x16384, .f32⟩
  | .hbm, ⟨7, _⟩ => ⟨S8x128x16384, .f32⟩
  | .hbm, ⟨8, _⟩ => ⟨S16384x1024, .bf16⟩
  | .hbm, ⟨9, _⟩ => ⟨S16384x1024, .bf16⟩
  | .hbm, ⟨10, _⟩ => ⟨S1024x16384, .bf16⟩
  | .hbm, ⟨11, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S8x128x512, .f32⟩
  | .local _ .vmem, ⟨9, _⟩ => ⟨S8x128x512, .f32⟩
  | .local _ .vmem, ⟨10, _⟩ => ⟨S8x128x512, .f32⟩
  | .local _ .vmem, ⟨11, _⟩ => ⟨S8x128x512, .f32⟩
  | .local _ .vmem, ⟨12, _⟩ => ⟨S8x128x512, .f32⟩
  | .local _ .vmem, ⟨13, _⟩ => ⟨S8x128x512, .f32⟩
  | .local _ .vmem, ⟨14, _⟩ => ⟨S8x128x512, .f32⟩
  | .local _ .vmem, ⟨15, _⟩ => ⟨S8x128x512, .f32⟩
  | .local _ .vmem, ⟨16, _⟩ => ⟨S512x1024, .f32⟩
  | .local _ .vmem, ⟨17, _⟩ => ⟨S512x1024, .f32⟩
  | .local _ .vmem, ⟨18, _⟩ => ⟨S1024x512, .f32⟩
  | .local _ .vmem, ⟨19, _⟩ => ⟨S2048x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 8], ![false, false]⟩

def k0_off1 (i : grid0.Coords) (c0_i32_4 : BitVec 32) : Fin 3 → Nat :=
  let c0_5 : Index := 0#32
  let arg1 : BitVec 32 := BitVec.ofNat 32 (i 1).val
  let c16_i32 : BitVec 32 := 16#32
  let v7 : BitVec 32 := Scalar.muli arg1 c16_i32
  let v8 : BitVec 32 := Scalar.addi v7 c0_i32_4
  let v9 : Index := Scalar.indexCast v8
  let c0_6 : Index := 0#32
  ![0, v9.toNat, 0]
def k0_off2 (i : grid0.Coords) (c0_i32_4 : BitVec 32) : Fin 3 → Nat :=
  let c1 : Index := 1#32
  let arg1 : BitVec 32 := BitVec.ofNat 32 (i 1).val
  let c16_i32 : BitVec 32 := 16#32
  let v7 : BitVec 32 := Scalar.muli arg1 c16_i32
  let v8 : BitVec 32 := Scalar.addi v7 c0_i32_4
  let v12 : Index := Scalar.indexCast v8
  let c0_7 : Index := 0#32
  ![1, v12.toNat, 0]
def k0_off3 (i : grid0.Coords) (c0_i32_4 : BitVec 32) : Fin 3 → Nat :=
  let c2 : Index := 2#32
  let arg1 : BitVec 32 := BitVec.ofNat 32 (i 1).val
  let c16_i32 : BitVec 32 := 16#32
  let v7 : BitVec 32 := Scalar.muli arg1 c16_i32
  let v8 : BitVec 32 := Scalar.addi v7 c0_i32_4
  let v15 : Index := Scalar.indexCast v8
  let c0_8 : Index := 0#32
  ![2, v15.toNat, 0]
def k0_off4 (i : grid0.Coords) (c0_i32_4 : BitVec 32) : Fin 3 → Nat :=
  let c3 : Index := 3#32
  let arg1 : BitVec 32 := BitVec.ofNat 32 (i 1).val
  let c16_i32 : BitVec 32 := 16#32
  let v7 : BitVec 32 := Scalar.muli arg1 c16_i32
  let v8 : BitVec 32 := Scalar.addi v7 c0_i32_4
  let v18 : Index := Scalar.indexCast v8
  let c0_9 : Index := 0#32
  ![3, v18.toNat, 0]
def k0_off5 (i : grid0.Coords) (c0_i32_4 : BitVec 32) : Fin 3 → Nat :=
  let c4 : Index := 4#32
  let arg1 : BitVec 32 := BitVec.ofNat 32 (i 1).val
  let c16_i32 : BitVec 32 := 16#32
  let v7 : BitVec 32 := Scalar.muli arg1 c16_i32
  let v8 : BitVec 32 := Scalar.addi v7 c0_i32_4
  let v21 : Index := Scalar.indexCast v8
  let c0_10 : Index := 0#32
  ![4, v21.toNat, 0]
def k0_off6 (i : grid0.Coords) (c0_i32_4 : BitVec 32) : Fin 3 → Nat :=
  let c5 : Index := 5#32
  let arg1 : BitVec 32 := BitVec.ofNat 32 (i 1).val
  let c16_i32 : BitVec 32 := 16#32
  let v7 : BitVec 32 := Scalar.muli arg1 c16_i32
  let v8 : BitVec 32 := Scalar.addi v7 c0_i32_4
  let v24 : Index := Scalar.indexCast v8
  let c0_11 : Index := 0#32
  ![5, v24.toNat, 0]
def k0_off7 (i : grid0.Coords) (c0_i32_4 : BitVec 32) : Fin 3 → Nat :=
  let c6 : Index := 6#32
  let arg1 : BitVec 32 := BitVec.ofNat 32 (i 1).val
  let c16_i32 : BitVec 32 := 16#32
  let v7 : BitVec 32 := Scalar.muli arg1 c16_i32
  let v8 : BitVec 32 := Scalar.addi v7 c0_i32_4
  let v27 : Index := Scalar.indexCast v8
  let c0_12 : Index := 0#32
  ![6, v27.toNat, 0]
def k0_off8 (i : grid0.Coords) (c0_i32_4 : BitVec 32) : Fin 3 → Nat :=
  let c7 : Index := 7#32
  let arg1 : BitVec 32 := BitVec.ofNat 32 (i 1).val
  let c16_i32 : BitVec 32 := 16#32
  let v7 : BitVec 32 := Scalar.muli arg1 c16_i32
  let v8 : BitVec 32 := Scalar.addi v7 c0_i32_4
  let v30 : Index := Scalar.indexCast v8
  let c0_13 : Index := 0#32
  ![7, v30.toNat, 0]
def k0_cond2 (i : grid0.Coords) : BitVec 1 :=
  let arg1 : BitVec 32 := BitVec.ofNat 32 (i 1).val
  let c7_i32_4423 : BitVec 32 := 7#32
  let v8304 : BitVec 1 := Scalar.cmpi .eq arg1 c7_i32_4423
  let v8305 : BitVec 32 := Scalar.extui v8304
  let c0_i32_4424 : BitVec 32 := 0#32
  let v8306 : BitVec 1 := Scalar.cmpi .ne v8305 c0_i32_4424
  v8306

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S16384x1024 : Shape := ⟨2, ![16384, 1024]⟩
abbrev S8x128x16384 : Shape := ⟨3, ![8, 128, 16384]⟩
abbrev S8x1x128x16384 : Shape := ⟨4, ![8, 1, 128, 16384]⟩
abbrev S8x128x1x16384 : Shape := ⟨4, ![8, 128, 1, 16384]⟩
abbrev S8x128x128x16384 : Shape := ⟨4, ![8, 128, 128, 16384]⟩
abbrev S_ : Shape := ⟨0, ![]⟩
abbrev S128x128x16384 : Shape := ⟨3, ![128, 128, 16384]⟩
abbrev S16384x16384 : Shape := ⟨2, ![16384, 16384]⟩
abbrev S1024x16384 : Shape := ⟨2, ![1024, 16384]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S8x128x16384, .f32⟩
  | .hbm, ⟨5, _⟩ => ⟨S8x128x16384, .f32⟩
  | .hbm, ⟨6, _⟩ => ⟨S8x128x16384, .f32⟩
  | .hbm, ⟨7, _⟩ => ⟨S8x128x16384, .f32⟩
  | .hbm, ⟨8, _⟩ => ⟨S8x1x128x16384, .f32⟩
  | .hbm, ⟨9, _⟩ => ⟨S8x128x1x16384, .f32⟩
  | .hbm, ⟨10, _⟩ => ⟨S8x128x128x16384, .f32⟩
  | .hbm, ⟨11, _⟩ => ⟨S8x128x128x16384, .f32⟩
  | .hbm, ⟨12, _⟩ => ⟨S8x128x128x16384, .i1⟩
  | .hbm, ⟨13, _⟩ => ⟨S8x128x1x16384, .f32⟩
  | .hbm, ⟨14, _⟩ => ⟨S8x1x128x16384, .f32⟩
  | .hbm, ⟨15, _⟩ => ⟨S8x128x128x16384, .f32⟩
  | .hbm, ⟨16, _⟩ => ⟨S8x128x128x16384, .f32⟩
  | .hbm, ⟨17, _⟩ => ⟨S8x128x128x16384, .f32⟩
  | .hbm, ⟨18, _⟩ => ⟨S_, .f32⟩
  | .hbm, ⟨19, _⟩ => ⟨S_, .f32⟩
  | .hbm, ⟨20, _⟩ => ⟨S8x128x128x16384, .f32⟩
  | .hbm, ⟨21, _⟩ => ⟨S8x128x128x16384, .f32⟩
  | .hbm, ⟨22, _⟩ => ⟨S_, .f32⟩
  | .hbm, ⟨23, _⟩ => ⟨S128x128x16384, .f32⟩
  | .hbm, ⟨24, _⟩ => ⟨S16384x16384, .f32⟩
  | .hbm, ⟨25, _⟩ => ⟨S16384x16384, .f32⟩
  | .hbm, ⟨26, _⟩ => ⟨S16384x1024, .f32⟩
  | .hbm, ⟨27, _⟩ => ⟨S1024x16384, .f32⟩
  | .hbm, ⟨28, _⟩ => ⟨S16384x16384, .f32⟩
  | .hbm, ⟨29, _⟩ => ⟨S_, .f32⟩
  | .hbm, ⟨30, _⟩ => ⟨S16384x16384, .f32⟩
  | .hbm, ⟨31, _⟩ => ⟨S16384x16384, .f32⟩
  | .hbm, ⟨32, _⟩ => ⟨S16384x16384, .f32⟩
  | .hbm, ⟨33, _⟩ => ⟨S_, .f32⟩
  | .hbm, ⟨34, _⟩ => ⟨S16384x16384, .f32⟩
  | .hbm, ⟨35, _⟩ => ⟨S16384x16384, .f32⟩
  | .hbm, ⟨36, _⟩ => ⟨S16384x16384, .f32⟩
  | .hbm, ⟨37, _⟩ => ⟨S16384x16384, .f32⟩
  | .hbm, ⟨38, _⟩ => ⟨S16384x16384, .f32⟩
  | .hbm, ⟨39, _⟩ => ⟨S16384x1024, .f32⟩
  | .hbm, ⟨40, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel2.lean ====
abbrev S4x4096x1024 : Shape := ⟨3, ![4, 4096, 1024]⟩
abbrev S1x1024 : Shape := ⟨2, ![1, 1024]⟩
abbrev S1x1024x5144 : Shape := ⟨3, ![1, 1024, 5144]⟩
abbrev S16384x1024 : Shape := ⟨2, ![16384, 1024]⟩
abbrev S1024 : Shape := ⟨1, ![1024]⟩
abbrev S1024x5144 : Shape := ⟨2, ![1024, 5144]⟩
abbrev S1024x512 : Shape := ⟨2, ![1024, 512]⟩
abbrev S1024x2x4x64 : Shape := ⟨4, ![1024, 2, 4, 64]⟩
abbrev S1024x1x4x64 : Shape := ⟨4, ![1024, 1, 4, 64]⟩
abbrev S1024x4x64 : Shape := ⟨3, ![1024, 4, 64]⟩
abbrev S_ : Shape := ⟨0, ![]⟩
abbrev S1024x4x128 : Shape := ⟨3, ![1024, 4, 128]⟩
abbrev S1024x1x4x128 : Shape := ⟨4, ![1024, 1, 4, 128]⟩
abbrev S1024x2x4x128 : Shape := ⟨4, ![1024, 2, 4, 128]⟩
abbrev S1024x1024 : Shape := ⟨2, ![1024, 1024]⟩
abbrev S1024x24 : Shape := ⟨2, ![1024, 24]⟩
abbrev S1024x128 : Shape := ⟨2, ![1024, 128]⟩
abbrev S1024x1792 : Shape := ⟨2, ![1024, 1792]⟩
abbrev S1024x768 : Shape := ⟨2, ![1024, 768]⟩
abbrev S1024x2048 : Shape := ⟨2, ![1024, 2048]⟩
abbrev S1024x5760 : Shape := ⟨2, ![1024, 5760]⟩
abbrev S16384x1792 : Shape := ⟨2, ![16384, 1792]⟩
abbrev S16384x1920 : Shape := ⟨2, ![16384, 1920]⟩
abbrev S16384x2048 : Shape := ⟨2, ![16384, 2048]⟩
abbrev S256x1024 : Shape := ⟨2, ![256, 1024]⟩
abbrev S256x1792 : Shape := ⟨2, ![256, 1792]⟩
abbrev S256x1920 : Shape := ⟨2, ![256, 1920]⟩
abbrev S256x2048 : Shape := ⟨2, ![256, 2048]⟩
abbrev S256 : Shape := ⟨1, ![256]⟩
abbrev S256x1 : Shape := ⟨2, ![256, 1]⟩
abbrev S1024x1920 : Shape := ⟨2, ![1024, 1920]⟩

abbrev nBuf : Space → Nat
  | .hbm => 35
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5144, .f32⟩
  | .hbm, ⟨3, _⟩ => ⟨S16384x1024, .f32⟩
  | .hbm, ⟨4, _⟩ => ⟨S1024, .f32⟩
  | .hbm, ⟨5, _⟩ => ⟨S1024x5144, .f32⟩
  | .hbm, ⟨6, _⟩ => ⟨S1024x512, .f32⟩
  | .hbm, ⟨7, _⟩ => ⟨S1024x2x4x64, .f32⟩
  | .hbm, ⟨8, _⟩ => ⟨S1024x1x4x64, .f32⟩
  | .hbm, ⟨9, _⟩ => ⟨S1024x4x64, .f32⟩
  | .hbm, ⟨10, _⟩ => ⟨S_, .i32⟩
  | .hbm, ⟨11, _⟩ => ⟨S_, .f32⟩
  | .hbm, ⟨12, _⟩ => ⟨S1024x4x128, .f32⟩
  | .hbm, ⟨13, _⟩ => ⟨S1024x1x4x64, .f32⟩
  | .hbm, ⟨14, _⟩ => ⟨S1024x4x64, .f32⟩
  | .hbm, ⟨15, _⟩ => ⟨S_, .i32⟩
  | .hbm, ⟨16, _⟩ => ⟨S_, .f32⟩
  | .hbm, ⟨17, _⟩ => ⟨S1024x4x128, .f32⟩
  | .hbm, ⟨18, _⟩ => ⟨S1024x1x4x128, .f32⟩
  | .hbm, ⟨19, _⟩ => ⟨S1024x1x4x128, .f32⟩
  | .hbm, ⟨20, _⟩ => ⟨S1024x2x4x128, .f32⟩
  | .hbm, ⟨21, _⟩ => ⟨S1024x1024, .f32⟩
  | .hbm, ⟨22, _⟩ => ⟨S1024x24, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x1792, .f32⟩
  | .hbm, ⟨27, _⟩ => ⟨S1024x768, .f32⟩
  | .hbm, ⟨28, _⟩ => ⟨S1024x2048, .f32⟩
  | .hbm, ⟨29, _⟩ => ⟨S1024x5760, .f32⟩
  | .hbm, ⟨30, _⟩ => ⟨S1024x5760, .bf16⟩
  | .hbm, ⟨31, _⟩ => ⟨S1x1024, .f32⟩
  | .hbm, ⟨32, _⟩ => ⟨S16384x1792, .f32⟩
  | .hbm, ⟨33, _⟩ => ⟨S16384x1920, .bf16⟩
  | .hbm, ⟨34, _⟩ => ⟨S16384x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5760, .bf16⟩
  | .local _ .vmem, ⟨4, _⟩ => ⟨S256x1792, .f32⟩
  | .local _ .vmem, ⟨5, _⟩ => ⟨S256x1792, .f32⟩
  | .local _ .vmem, ⟨6, _⟩ => ⟨S256x1920, .bf16⟩
  | .local _ .vmem, ⟨7, _⟩ => ⟨S256x1920, .bf16⟩
  | .local _ .vmem, ⟨8, _⟩ => ⟨S256x2048, .bf16⟩
  | .local _ .vmem, ⟨9, _⟩ => ⟨S256x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_call2_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5760 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1920 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4x4096x1024 : Shape := ⟨3, ![4, 4096, 1024]⟩
abbrev S1x1024 : Shape := ⟨2, ![1, 1024]⟩
abbrev S1x1024x5144 : Shape := ⟨3, ![1, 1024, 5144]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1024x5144 : Shape := ⟨2, ![1024, 5144]⟩
abbrev S16384x5144 : Shape := ⟨2, ![16384, 5144]⟩
abbrev S16384x512 : Shape := ⟨2, ![16384, 512]⟩
abbrev S16384x2x4x64 : Shape := ⟨4, ![16384, 2, 4, 64]⟩
abbrev S16384x1x4x64 : Shape := ⟨4, ![16384, 1, 4, 64]⟩
abbrev S16384x4x64 : Shape := ⟨3, ![16384, 4, 64]⟩
abbrev S16384x4x128 : Shape := ⟨3, ![16384, 4, 128]⟩
abbrev S16384x768 : Shape := ⟨2, ![16384, 768]⟩
abbrev S16384x24 : Shape := ⟨2, ![16384, 24]⟩
abbrev S16384x128 : Shape := ⟨2, ![16384, 128]⟩
abbrev S16384x1920 : Shape := ⟨2, ![16384, 1920]⟩
abbrev S16384x2048 : Shape := ⟨2, ![16384, 2048]⟩
abbrev S16384x1792 : Shape := ⟨2, ![16384, 1792]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5144, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x5144, .f32⟩
  | .hbm, ⟨22, _⟩ => ⟨S16384x5144, .f32⟩
  | .hbm, ⟨23, _⟩ => ⟨S16384x512, .f32⟩
  | .hbm, ⟨24, _⟩ => ⟨S16384x2x4x64, .f32⟩
  | .hbm, ⟨25, _⟩ => ⟨S16384x1x4x64, .f32⟩
  | .hbm, ⟨26, _⟩ => ⟨S16384x4x64, .f32⟩
  | .hbm, ⟨27, _⟩ => ⟨S_, .i32⟩
  | .hbm, ⟨28, _⟩ => ⟨S_, .f32⟩
  | .hbm, ⟨29, _⟩ => ⟨S16384x4x128, .f32⟩
  | .hbm, ⟨30, _⟩ => ⟨S16384x512, .f32⟩
  | .hbm, ⟨31, _⟩ => ⟨S16384x1x4x64, .f32⟩
  | .hbm, ⟨32, _⟩ => ⟨S16384x4x64, .f32⟩
  | .hbm, ⟨33, _⟩ => ⟨S_, .i32⟩
  | .hbm, ⟨34, _⟩ => ⟨S_, .f32⟩
  | .hbm, ⟨35, _⟩ => ⟨S16384x4x128, .f32⟩
  | .hbm, ⟨36, _⟩ => ⟨S16384x512, .f32⟩
  | .hbm, ⟨37, _⟩ => ⟨S16384x768, .f32⟩
  | .hbm, ⟨38, _⟩ => ⟨S16384x24, .f32⟩
  | .hbm, ⟨39, _⟩ => ⟨S_, .i32⟩
  | .hbm, ⟨40, _⟩ => ⟨S_, .f32⟩
  | .hbm, ⟨41, _⟩ => ⟨S16384x128, .f32⟩
  | .hbm, ⟨42, _⟩ => ⟨S16384x1920, .f32⟩
  | .hbm, ⟨43, _⟩ => ⟨S16384x2048, .f32⟩
  | .hbm, ⟨44, _⟩ => ⟨S16384x1792, .f32⟩
  | .hbm, ⟨45, _⟩ => ⟨S16384x1920, .bf16⟩
  | .hbm, ⟨46, _⟩ => ⟨S16384x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_call1_v0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_call2_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel3.lean ====
abbrev S16384x512 : Shape := ⟨2, ![16384, 512]⟩
abbrev S16384x1024 : Shape := ⟨2, ![16384, 1024]⟩
abbrev S16384x2048 : Shape := ⟨2, ![16384, 2048]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S128x128 : Shape := ⟨2, ![128, 128]⟩
abbrev S8x64x1024 : Shape := ⟨3, ![8, 64, 1024]⟩
abbrev S_ : Shape := ⟨0, ![]⟩
abbrev S8x128x1024 : Shape := ⟨3, ![8, 128, 1024]⟩
abbrev S1x1024 : Shape := ⟨2, ![1, 1024]⟩
abbrev S8x128x16384 : Shape := ⟨3, ![8, 128, 16384]⟩
abbrev S256x512 : Shape := ⟨2, ![256, 512]⟩
abbrev S256x1024 : Shape := ⟨2, ![256, 1024]⟩
abbrev S256x2048 : Shape := ⟨2, ![256, 2048]⟩
abbrev S8x128x256 : Shape := ⟨3, ![8, 128, 256]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x128x256 : Shape := ⟨3, ![1, 128, 256]⟩

abbrev nBuf : Space → Nat
  | .hbm => 27
  | .vmem => 23
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x2048, .bf16⟩
  | .hbm, ⟨3, _⟩ => ⟨S16384x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x2048, .f32⟩
  | .hbm, ⟨9, _⟩ => ⟨S128x128, .f32⟩
  | .hbm, ⟨10, _⟩ => ⟨S128x128, .f32⟩
  | .hbm, ⟨11, _⟩ => ⟨S8x64x1024, .f32⟩
  | .hbm, ⟨12, _⟩ => ⟨S_, .f32⟩
  | .hbm, ⟨13, _⟩ => ⟨S8x64x1024, .f32⟩
  | .hbm, ⟨14, _⟩ => ⟨S8x128x1024, .f32⟩
  | .hbm, ⟨15, _⟩ => ⟨S1024x1024, .f32⟩
  | .hbm, ⟨16, _⟩ => ⟨S512x1024, .bf16⟩
  | .hbm, ⟨17, _⟩ => ⟨S1024x1024, .bf16⟩
  | .hbm, ⟨18, _⟩ => ⟨S1024x1024, .bf16⟩
  | .hbm, ⟨19, _⟩ => ⟨S1x1024, .f32⟩
  | .hbm, ⟨20, _⟩ => ⟨S1024x2048, .bf16⟩
  | .hbm, ⟨21, _⟩ => ⟨S128x128, .bf16⟩
  | .hbm, ⟨22, _⟩ => ⟨S128x128, .bf16⟩
  | .hbm, ⟨23, _⟩ => ⟨S16384x1024, .f32⟩
  | .hbm, ⟨24, _⟩ => ⟨S16384x1024, .bf16⟩
  | .hbm, ⟨25, _⟩ => ⟨S8x128x16384, .f32⟩
  | .hbm, ⟨26, _⟩ => ⟨S8x128x16384, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x2048, .bf16⟩
  | .local _ .vmem, ⟨5, _⟩ => ⟨S256x2048, .bf16⟩
  | .local _ .vmem, ⟨6, _⟩ => ⟨S256x1024, .f32⟩
  | .local _ .vmem, ⟨7, _⟩ => ⟨S256x1024, .f32⟩
  | .local _ .vmem, ⟨8, _⟩ => ⟨S512x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x2048, .bf16⟩
  | .local _ .vmem, ⟨13, _⟩ => ⟨S128x128, .bf16⟩
  | .local _ .vmem, ⟨14, _⟩ => ⟨S128x128, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S8x128x256, .f32⟩
  | .local _ .vmem, ⟨20, _⟩ => ⟨S8x128x256, .f32⟩
  | .local _ .vmem, ⟨21, _⟩ => ⟨S8x128x256, .f32⟩
  | .local _ .vmem, ⟨22, _⟩ => ⟨S8x128x256, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S16384x512 : Shape := ⟨2, ![16384, 512]⟩
abbrev S16384x1024 : Shape := ⟨2, ![16384, 1024]⟩
abbrev S16384x2048 : Shape := ⟨2, ![16384, 2048]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S128x128 : Shape := ⟨2, ![128, 128]⟩
abbrev S16384x8x128 : Shape := ⟨3, ![16384, 8, 128]⟩
abbrev S16384x8x64 : Shape := ⟨3, ![16384, 8, 64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8x2x128 : Shape := ⟨4, ![16384, 8, 2, 128]⟩
abbrev S16384x8x1x128 : Shape := ⟨4, ![16384, 8, 1, 128]⟩
abbrev S8x128x16384 : Shape := ⟨3, ![8, 128, 16384]⟩

abbrev nBuf : Space → Nat
  | .hbm => 67
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x2048, .bf16⟩
  | .hbm, ⟨3, _⟩ => ⟨S16384x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x2048, .f32⟩
  | .hbm, ⟨9, _⟩ => ⟨S128x128, .f32⟩
  | .hbm, ⟨10, _⟩ => ⟨S128x128, .f32⟩
  | .hbm, ⟨11, _⟩ => ⟨S16384x2048, .f32⟩
  | .hbm, ⟨12, _⟩ => ⟨S16384x8x128, .f32⟩
  | .hbm, ⟨13, _⟩ => ⟨S16384x8x64, .f32⟩
  | .hbm, ⟨14, _⟩ => ⟨S16384x512, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S16384x2048, .f32⟩
  | .hbm, ⟨57, _⟩ => ⟨S16384x8x2x128, .f32⟩
  | .hbm, ⟨58, _⟩ => ⟨S16384x8x1x128, .f32⟩
  | .hbm, ⟨59, _⟩ => ⟨S16384x8x128, .f32⟩
  | .hbm, ⟨60, _⟩ => ⟨S16384x8x128, .f32⟩
  | .hbm, ⟨61, _⟩ => ⟨S16384x8x1x128, .f32⟩
  | .hbm, ⟨62, _⟩ => ⟨S16384x8x128, .f32⟩
  | .hbm, ⟨63, _⟩ => ⟨S16384x8x128, .f32⟩
  | .hbm, ⟨64, _⟩ => ⟨S16384x1024, .bf16⟩
  | .hbm, ⟨65, _⟩ => ⟨S8x128x16384, .f32⟩
  | .hbm, ⟨66, _⟩ => ⟨S8x128x16384, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Kernel4.lean ====
abbrev S4x4096x1792 : Shape := ⟨3, ![4, 4096, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S1x1792 : Shape := ⟨2, ![1, 1792]⟩
abbrev S1x512 : Shape := ⟨2, ![1, 512]⟩
abbrev S4x4096x512 : Shape := ⟨3, ![4, 4096, 512]⟩
abbrev S4x64x1792 : Shape := ⟨3, ![4, 64, 1792]⟩
abbrev S4x64x512 : Shape := ⟨3, ![4, 64, 512]⟩
abbrev S16x128x128 : Shape := ⟨3, ![16, 128, 128]⟩
abbrev S4x8x1792 : Shape := ⟨3, ![4, 8, 1792]⟩
abbrev S128x128 : Shape := ⟨2, ![128, 128]⟩
abbrev S64x64 : Shape := ⟨2, ![64, 64]⟩
abbrev S64x128 : Shape := ⟨2, ![64, 128]⟩
abbrev S1x64x1792 : Shape := ⟨3, ![1, 64, 1792]⟩
abbrev S64x1792 : Shape := ⟨2, ![64, 1792]⟩
abbrev S1x8x1792 : Shape := ⟨3, ![1, 8, 1792]⟩
abbrev S8x1792 : Shape := ⟨2, ![8, 1792]⟩
abbrev S64 : Shape := ⟨1, ![64]⟩
abbrev S64x1 : Shape := ⟨2, ![64, 1]⟩
abbrev S1x128 : Shape := ⟨2, ![1, 128]⟩
abbrev S1x128x128 : Shape := ⟨3, ![1, 128, 128]⟩
abbrev S256x128 : Shape := ⟨2, ![256, 128]⟩
abbrev S256x256 : Shape := ⟨2, ![256, 256]⟩
abbrev S128x256 : Shape := ⟨2, ![128, 256]⟩
abbrev S1x64x128 : Shape := ⟨3, ![1, 64, 128]⟩

abbrev nBuf : Space → Nat
  | .hbm => 24
  | .vmem => 17
  | .smem => 0
  | _ => 0

abbrev bufTy : (tb : Table) → Fin (tcTables nBuf tb) → BufTy
  | .hbm, ⟨0, _⟩ => ⟨S4x4096x1792, .f32⟩
  | .hbm, ⟨1, _⟩ => ⟨S1792, .f32⟩
  | .hbm, ⟨2, _⟩ => ⟨S512, .f32⟩
  | .hbm, ⟨3, _⟩ => ⟨S64x512, .f32⟩
  | .hbm, ⟨4, _⟩ => ⟨S512, .f32⟩
  | .hbm, ⟨5, _⟩ => ⟨S64x512, .f32⟩
  | .hbm, ⟨6, _⟩ => ⟨S128x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S1x1792, .f32⟩
  | .hbm, ⟨13, _⟩ => ⟨S1x512, .f32⟩
  | .hbm, ⟨14, _⟩ => ⟨S64x512, .bf16⟩
  | .hbm, ⟨15, _⟩ => ⟨S1x512, .f32⟩
  | .hbm, ⟨16, _⟩ => ⟨S64x512, .bf16⟩
  | .hbm, ⟨17, _⟩ => ⟨S128x512, .bf16⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S4x4096x512, .f32⟩
  | .local _ .vmem, ⟨0, _⟩ => ⟨S4x64x1792, .f32⟩
  | .local _ .vmem, ⟨1, _⟩ => ⟨S4x64x1792, .f32⟩
  | .local _ .vmem, ⟨2, _⟩ => ⟨S1x1792, .f32⟩
  | .local _ .vmem, ⟨3, _⟩ => ⟨S1x512, .f32⟩
  | .local _ .vmem, ⟨4, _⟩ => ⟨S64x512, .bf16⟩
  | .local _ .vmem, ⟨5, _⟩ => ⟨S1x512, .f32⟩
  | .local _ .vmem, ⟨6, _⟩ => ⟨S64x512, .bf16⟩
  | .local _ .vmem, ⟨7, _⟩ => ⟨S128x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S4x64x512, .f32⟩
  | .local _ .vmem, ⟨14, _⟩ => ⟨S4x64x512, .f32⟩
  | .local _ .vmem, ⟨15, _⟩ => ⟨S16x128x128, .f32⟩
  | .local _ .vmem, ⟨16, _⟩ => ⟨S4x8x1792, .f32⟩
  | _, _ => ⟨S4x4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x64x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4x64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel5.lean ====
abbrev S4x4096x1024 : Shape := ⟨3, ![4, 4096, 1024]⟩
abbrev S4x4096x128 : Shape := ⟨3, ![4, 4096, 128]⟩
abbrev S4x256x128 : Shape := ⟨3, ![4, 256, 128]⟩
abbrev S4x128x256 : Shape := ⟨3, ![4, 128, 256]⟩
abbrev S4x16x128x256 : Shape := ⟨4, ![4, 16, 128, 256]⟩
abbrev S64x256 : Shape := ⟨2, ![64, 256]⟩
abbrev S1x128x1024 : Shape := ⟨3, ![1, 128, 1024]⟩
abbrev S1x128x128 : Shape := ⟨3, ![1, 128, 128]⟩
abbrev S1x256x128 : Shape := ⟨3, ![1, 256, 128]⟩
abbrev S1x128x256 : Shape := ⟨3, ![1, 128, 256]⟩
abbrev S1x4096x128 : Shape := ⟨3, ![1, 4096, 128]⟩
abbrev S1x16x128x256 : Shape := ⟨4, ![1, 16, 128, 256]⟩
abbrev S2x64x128 : Shape := ⟨3, ![2, 64, 128]⟩
abbrev S128x128 : Shape := ⟨2, ![128, 128]⟩
abbrev S512x128 : Shape := ⟨2, ![512, 128]⟩
abbrev S256x128 : Shape := ⟨2, ![256, 128]⟩
abbrev S256x512 : Shape := ⟨2, ![256, 512]⟩
abbrev S512 : Shape := ⟨1, ![512]⟩
abbrev S1x512 : Shape := ⟨2, ![1, 512]⟩
abbrev S1x64x256 : Shape := ⟨3, ![1, 64, 256]⟩
abbrev S64x512 : Shape := ⟨2, ![64, 512]⟩
abbrev S64x128 : Shape := ⟨2, ![64, 128]⟩
abbrev S8x128 : Shape := ⟨2, ![8, 128]⟩
abbrev S1x128 : Shape := ⟨2, ![1, 128]⟩
abbrev S1x64x128 : Shape := ⟨3, ![1, 64, 128]⟩
abbrev S1x1x128x256 : Shape := ⟨4, ![1, 1, 128, 256]⟩
abbrev S128x256 : Shape := ⟨2, ![128, 256]⟩
abbrev S768x512 : Shape := ⟨2, ![768, 512]⟩
abbrev S64x768 : Shape := ⟨2, ![64, 768]⟩
abbrev S1x512x128 : Shape := ⟨3, ![1, 512, 128]⟩
abbrev S128x512 : Shape := ⟨2, ![128, 512]⟩
abbrev S512x512 : Shape := ⟨2, ![512, 512]⟩
abbrev S1x1x128 : Shape := ⟨3, ![1, 1, 128]⟩

abbrev nBuf : Space → Nat
  | .hbm => 10
  | .vmem => 20
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x128, .f32⟩
  | .hbm, ⟨2, _⟩ => ⟨S4x256x128, .bf16⟩
  | .hbm, ⟨3, _⟩ => ⟨S4x128x256, .bf16⟩
  | .hbm, ⟨4, _⟩ => ⟨S4x4096x128, .bf16⟩
  | .hbm, ⟨5, _⟩ => ⟨S4x16x128x256, .bf16⟩
  | .hbm, ⟨6, _⟩ => ⟨S4x4096x128, .bf16⟩
  | .hbm, ⟨7, _⟩ => ⟨S4x16x128x256, .bf16⟩
  | .hbm, ⟨8, _⟩ => ⟨S64x256, .bf16⟩
  | .hbm, ⟨9, _⟩ => ⟨S4x4096x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x128, .f32⟩
  | .local _ .vmem, ⟨3, _⟩ => ⟨S1x128x128, .f32⟩
  | .local _ .vmem, ⟨4, _⟩ => ⟨S1x256x128, .bf16⟩
  | .local _ .vmem, ⟨5, _⟩ => ⟨S1x256x128, .bf16⟩
  | .local _ .vmem, ⟨6, _⟩ => ⟨S1x128x256, .bf16⟩
  | .local _ .vmem, ⟨7, _⟩ => ⟨S1x128x256, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x16x128x256, .bf16⟩
  | .local _ .vmem, ⟨11, _⟩ => ⟨S1x16x128x256, .bf16⟩
  | .local _ .vmem, ⟨12, _⟩ => ⟨S1x4096x128, .bf16⟩
  | .local _ .vmem, ⟨13, _⟩ => ⟨S1x4096x128, .bf16⟩
  | .local _ .vmem, ⟨14, _⟩ => ⟨S1x16x128x256, .bf16⟩
  | .local _ .vmem, ⟨15, _⟩ => ⟨S1x16x128x256, .bf16⟩
  | .local _ .vmem, ⟨16, _⟩ => ⟨S64x256, .bf16⟩
  | .local _ .vmem, ⟨17, _⟩ => ⟨S1x128x1024, .f32⟩
  | .local _ .vmem, ⟨18, _⟩ => ⟨S1x128x1024, .f32⟩
  | .local _ .vmem, ⟨19, _⟩ => ⟨S2x64x128, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  let c512_i32 : BitVec 32 := 512#32
  let v22 : BitVec 32 := Scalar.subi v0 c512_i32
  let c0_i32 : BitVec 32 := 0#32
  let v23 : BitVec 32 := Scalar.maxsi v22 c0_i32
  let c0_i32_19 : BitVec 32 := 0#32
  let v25 : BitVec 1 := Scalar.cmpi .sgt v23 c0_i32_19
  let v26 : BitVec 32 := Scalar.extui v25
  let c0_i32_20 : BitVec 32 := 0#32
  let v27 : BitVec 1 := Scalar.cmpi .slt v23 c0_i32_20
  let v28 : BitVec 32 := Scalar.extui v27
  let v29 : BitVec 32 := Scalar.subi v26 v28
  let c256_i32 : BitVec 32 := 256#32
  let c0_i32_21 : BitVec 32 := 0#32
  let v30 : BitVec 1 := Scalar.cmpi .sgt c256_i32 c0_i32_21
  let v31 : BitVec 32 := Scalar.extui v30
  let c0_i32_22 : BitVec 32 := 0#32
  let v32 : BitVec 1 := Scalar.cmpi .slt c256_i32 c0_i32_22
  let v33 : BitVec 32 := Scalar.extui v32
  let v34 : BitVec 32 := Scalar.subi v31 v33
  let v35 : BitVec 1 := Scalar.cmpi .ne v29 v34
  let v36 : BitVec 32 := Scalar.remsi v23 c256_i32
  let c0_i32_23 : BitVec 32 := 0#32
  let v37 : BitVec 1 := Scalar.cmpi .ne v36 c0_i32_23
  let v38 : BitVec 1 := Scalar.andi v35 v37
  let v24 : BitVec 32 := Scalar.divsi v23 c256_i32
  let c1_i32 : BitVec 32 := 1#32
  let v39 : BitVec 32 := Scalar.subi v24 c1_i32
  let v40 : BitVec 32 := Scalar.select v38 v39 v24
  let c0_i32_24 : BitVec 32 := 0#32
  let v41 : BitVec 32 := Scalar.addi v40 c0_i32_24
  let c15_i32 : BitVec 32 := 15#32
  let v42 : BitVec 32 := Scalar.minsi v41 c15_i32
  let c256_i32_35 : BitVec 32 := 256#32
  let v53 : BitVec 32 := Scalar.muli v42 c256_i32_35
  v53
def k0_off1 (i : grid0.Coords) (c0_i32_24 : BitVec 32) : Fin 3 → Nat :=
  let c0_36 : Index := 0#32
  let arg1 : BitVec 32 := BitVec.ofNat 32 (i 1).val
  let c128_i32 : BitVec 32 := 128#32
  let v0 : BitVec 32 := Scalar.muli arg1 c128_i32
  let c512_i32 : BitVec 32 := 512#32
  let v22 : BitVec 32 := Scalar.subi v0 c512_i32
  let c0_i32 : BitVec 32 := 0#32
  let v23 : BitVec 32 := Scalar.maxsi v22 c0_i32
  let c0_i32_19 : BitVec 32 := 0#32
  let v25 : BitVec 1 := Scalar.cmpi .sgt v23 c0_i32_19
  let v26 : BitVec 32 := Scalar.extui v25
  let c0_i32_20 : BitVec 32 := 0#32
  let v27 : BitVec 1 := Scalar.cmpi .slt v23 c0_i32_20
  let v28 : BitVec 32 := Scalar.extui v27
  let v29 : BitVec 32 := Scalar.subi v26 v28
  let c256_i32 : BitVec 32 := 256#32
  let c0_i32_21 : BitVec 32 := 0#32
  let v30 : BitVec 1 := Scalar.cmpi .sgt c256_i32 c0_i32_21
  let v31 : BitVec 32 := Scalar.extui v30
  let c0_i32_22 : BitVec 32 := 0#32
  let v32 : BitVec 1 := Scalar.cmpi .slt c256_i32 c0_i32_22
  let v33 : BitVec 32 := Scalar.extui v32
  let v34 : BitVec 32 := Scalar.subi v31 v33
  let v35 : BitVec 1 := Scalar.cmpi .ne v29 v34
  let v36 : BitVec 32 := Scalar.remsi v23 c256_i32
  let c0_i32_23 : BitVec 32 := 0#32
  let v37 : BitVec 1 := Scalar.cmpi .ne v36 c0_i32_23
  let v38 : BitVec 1 := Scalar.andi v35 v37
  let v24 : BitVec 32 := Scalar.divsi v23 c256_i32
  let c1_i32 : BitVec 32 := 1#32
  let v39 : BitVec 32 := Scalar.subi v24 c1_i32
  let v40 : BitVec 32 := Scalar.select v38 v39 v24
  let v41 : BitVec 32 := Scalar.addi v40 c0_i32_24
  let c15_i32 : BitVec 32 := 15#32
  let v42 : BitVec 32 := Scalar.minsi v41 c15_i32
  let c256_i32_35 : BitVec 32 := 256#32
  let v53 : BitVec 32 := Scalar.muli v42 c256_i32_35
  let v54 : BitVec 32 := v53
  let v55 : Index := Scalar.indexCast v54
  let c0_37 : Index := 0#32
  ![0, v55.toNat, 0]
def k0_mult2 (i : grid0.Coords) : BitVec 32 :=
  let arg1 : BitVec 32 := BitVec.ofNat 32 (i 1).val
  let c128_i32 : BitVec 32 := 128#32
  let v0 : BitVec 32 := Scalar.muli arg1 c128_i32
  let c512_i32 : BitVec 32 := 512#32
  let v22 : BitVec 32 := Scalar.subi v0 c512_i32
  let c0_i32 : BitVec 32 := 0#32
  let v23 : BitVec 32 := Scalar.maxsi v22 c0_i32
  let c0_i32_19 : BitVec 32 := 0#32
  let v25 : BitVec 1 := Scalar.cmpi .sgt v23 c0_i32_19
  let v26 : BitVec 32 := Scalar.extui v25
  let c0_i32_20 : BitVec 32 := 0#32
  let v27 : BitVec 1 := Scalar.cmpi .slt v23 c0_i32_20
  let v28 : BitVec 32 := Scalar.extui v27
  let v29 : BitVec 32 := Scalar.subi v26 v28
  let c256_i32 : BitVec 32 := 256#32
  let c0_i32_21 : BitVec 32 := 0#32
  let v30 : BitVec 1 := Scalar.cmpi .sgt c256_i32 c0_i32_21
  let v31 : BitVec 32 := Scalar.extui v30
  let c0_i32_22 : BitVec 32 := 0#32
  let v32 : BitVec 1 := Scalar.cmpi .slt c256_i32 c0_i32_22
  let v33 : BitVec 32 := Scalar.extui v32
  let v34 : BitVec 32 := Scalar.subi v31 v33
  let v35 : BitVec 1 := Scalar.cmpi .ne v29 v34
  let v36 : BitVec 32 := Scalar.remsi v23 c256_i32
  let c0_i32_23 : BitVec 32 := 0#32
  let v37 : BitVec 1 := Scalar.cmpi .ne v36 c0_i32_23
  let v38 : BitVec 1 := Scalar.andi v35 v37
  let v24 : BitVec 32 := Scalar.divsi v23 c256_i32
  let c1_i32 : BitVec 32 := 1#32
  let v39 : BitVec 32 := Scalar.subi v24 c1_i32
  let v40 : BitVec 32 := Scalar.select v38 v39 v24
  let c1_i32_25 : BitVec 32 := 1#32
  let v43 : BitVec 32 := Scalar.addi v40 c1_i32_25
  let c15_i32_26 : BitVec 32 := 15#32
  let v44 : BitVec 32 := Scalar.minsi v43 c15_i32_26
  let c256_i32_39 : BitVec 32 := 256#32
  let v59 : BitVec 32 := Scalar.muli v44 c256_i32_39
  v59
def k0_mult3 (i : grid0.Coords) : BitVec 32 :=
  let arg1 : BitVec 32 := BitVec.ofNat 32 (i 1).val
  let c128_i32 : BitVec 32 := 128#32
  let v0 : BitVec 32 := Scalar.muli arg1 c128_i32
  let c512_i32 : BitVec 32 := 512#32
  let v22 : BitVec 32 := Scalar.subi v0 c512_i32
  let c0_i32 : BitVec 32 := 0#32
  let v23 : BitVec 32 := Scalar.maxsi v22 c0_i32
  let c0_i32_19 : BitVec 32 := 0#32
  let v25 : BitVec 1 := Scalar.cmpi .sgt v23 c0_i32_19
  let v26 : BitVec 32 := Scalar.extui v25
  let c0_i32_20 : BitVec 32 := 0#32
  let v27 : BitVec 1 := Scalar.cmpi .slt v23 c0_i32_20
  let v28 : BitVec 32 := Scalar.extui v27
  let v29 : BitVec 32 := Scalar.subi v26 v28
  let c256_i32 : BitVec 32 := 256#32
  let c0_i32_21 : BitVec 32 := 0#32
  let v30 : BitVec 1 := Scalar.cmpi .sgt c256_i32 c0_i32_21
  let v31 : BitVec 32 := Scalar.extui v30
  let c0_i32_22 : BitVec 32 := 0#32
  let v32 : BitVec 1 := Scalar.cmpi .slt c256_i32 c0_i32_22
  let v33 : BitVec 32 := Scalar.extui v32
  let v34 : BitVec 32 := Scalar.subi v31 v33
  let v35 : BitVec 1 := Scalar.cmpi .ne v29 v34
  let v36 : BitVec 32 := Scalar.remsi v23 c256_i32
  let c0_i32_23 : BitVec 32 := 0#32
  let v37 : BitVec 1 := Scalar.cmpi .ne v36 c0_i32_23
  let v38 : BitVec 1 := Scalar.andi v35 v37
  let v24 : BitVec 32 := Scalar.divsi v23 c256_i32
  let c1_i32 : BitVec 32 := 1#32
  let v39 : BitVec 32 := Scalar.subi v24 c1_i32
  let v40 : BitVec 32 := Scalar.select v38 v39 v24
  let c2_i32 : BitVec 32 := 2#32
  let v45 : BitVec 32 := Scalar.addi v40 c2_i32
  let c15_i32_27 : BitVec 32 := 15#32
  let v46 : BitVec 32 := Scalar.minsi v45 c15_i32_27
  let c256_i32_43 : BitVec 32 := 256#32
  let v65 : BitVec 32 := Scalar.muli v46 c256_i32_43
  v65
def k0_mult4 (i : grid0.Coords) : BitVec 32 :=
  let arg1 : BitVec 32 := BitVec.ofNat 32 (i 1).val
  let c128_i32 : BitVec 32 := 128#32
  let v0 : BitVec 32 := Scalar.muli arg1 c128_i32
  let c512_i32 : BitVec 32 := 512#32
  let v22 : BitVec 32 := Scalar.subi v0 c512_i32
  let c0_i32 : BitVec 32 := 0#32
  let v23 : BitVec 32 := Scalar.maxsi v22 c0_i32
  let c0_i32_19 : BitVec 32 := 0#32
  let v25 : BitVec 1 := Scalar.cmpi .sgt v23 c0_i32_19
  let v26 : BitVec 32 := Scalar.extui v25
  let c0_i32_20 : BitVec 32 := 0#32
  let v27 : BitVec 1 := Scalar.cmpi .slt v23 c0_i32_20
  let v28 : BitVec 32 := Scalar.extui v27
  let v29 : BitVec 32 := Scalar.subi v26 v28
  let c256_i32 : BitVec 32 := 256#32
  let c0_i32_21 : BitVec 32 := 0#32
  let v30 : BitVec 1 := Scalar.cmpi .sgt c256_i32 c0_i32_21
  let v31 : BitVec 32 := Scalar.extui v30
  let c0_i32_22 : BitVec 32 := 0#32
  let v32 : BitVec 1 := Scalar.cmpi .slt c256_i32 c0_i32_22
  let v33 : BitVec 32 := Scalar.extui v32
  let v34 : BitVec 32 := Scalar.subi v31 v33
  let v35 : BitVec 1 := Scalar.cmpi .ne v29 v34
  let v36 : BitVec 32 := Scalar.remsi v23 c256_i32
  let c0_i32_23 : BitVec 32 := 0#32
  let v37 : BitVec 1 := Scalar.cmpi .ne v36 c0_i32_23
  let v38 : BitVec 1 := Scalar.andi v35 v37
  let v24 : BitVec 32 := Scalar.divsi v23 c256_i32
  let c1_i32 : BitVec 32 := 1#32
  let v39 : BitVec 32 := Scalar.subi v24 c1_i32
  let v40 : BitVec 32 := Scalar.select v38 v39 v24
  let c0_i32_24 : BitVec 32 := 0#32
  let v41 : BitVec 32 := Scalar.addi v40 c0_i32_24
  let c15_i32 : BitVec 32 := 15#32
  let v42 : BitVec 32 := Scalar.minsi v41 c15_i32
  let c256_i32_47 : BitVec 32 := 256#32
  let v71 : BitVec 32 := Scalar.muli v42 c256_i32_47
  v71
def k0_mult5 (i : grid0.Coords) : BitVec 32 :=
  let arg1 : BitVec 32 := BitVec.ofNat 32 (i 1).val
  let c128_i32 : BitVec 32 := 128#32
  let v0 : BitVec 32 := Scalar.muli arg1 c128_i32
  let c512_i32 : BitVec 32 := 512#32
  let v22 : BitVec 32 := Scalar.subi v0 c512_i32
  let c0_i32 : BitVec 32 := 0#32
  let v23 : BitVec 32 := Scalar.maxsi v22 c0_i32
  let c0_i32_19 : BitVec 32 := 0#32
  let v25 : BitVec 1 := Scalar.cmpi .sgt v23 c0_i32_19
  let v26 : BitVec 32 := Scalar.extui v25
  let c0_i32_20 : BitVec 32 := 0#32
  let v27 : BitVec 1 := Scalar.cmpi .slt v23 c0_i32_20
  let v28 : BitVec 32 := Scalar.extui v27
  let v29 : BitVec 32 := Scalar.subi v26 v28
  let c256_i32 : BitVec 32 := 256#32
  let c0_i32_21 : BitVec 32 := 0#32
  let v30 : BitVec 1 := Scalar.cmpi .sgt c256_i32 c0_i32_21
  let v31 : BitVec 32 := Scalar.extui v30
  let c0_i32_22 : BitVec 32 := 0#32
  let v32 : BitVec 1 := Scalar.cmpi .slt c256_i32 c0_i32_22
  let v33 : BitVec 32 := Scalar.extui v32
  let v34 : BitVec 32 := Scalar.subi v31 v33
  let v35 : BitVec 1 := Scalar.cmpi .ne v29 v34
  let v36 : BitVec 32 := Scalar.remsi v23 c256_i32
  let c0_i32_23 : BitVec 32 := 0#32
  let v37 : BitVec 1 := Scalar.cmpi .ne v36 c0_i32_23
  let v38 : BitVec 1 := Scalar.andi v35 v37
  let v24 : BitVec 32 := Scalar.divsi v23 c256_i32
  let c1_i32 : BitVec 32 := 1#32
  let v39 : BitVec 32 := Scalar.subi v24 c1_i32
  let v40 : BitVec 32 := Scalar.select v38 v39 v24
  let c1_i32_25 : BitVec 32 := 1#32
  let v43 : BitVec 32 := Scalar.addi v40 c1_i32_25
  let c15_i32_26 : BitVec 32 := 15#32
  let v44 : BitVec 32 := Scalar.minsi v43 c15_i32_26
  let c256_i32_51 : BitVec 32 := 256#32
  let v77 : BitVec 32 := Scalar.muli v44 c256_i32_51
  v77
def k0_mult6 (i : grid0.Coords) : BitVec 32 :=
  let arg1 : BitVec 32 := BitVec.ofNat 32 (i 1).val
  let c128_i32 : BitVec 32 := 128#32
  let v0 : BitVec 32 := Scalar.muli arg1 c128_i32
  let c512_i32 : BitVec 32 := 512#32
  let v22 : BitVec 32 := Scalar.subi v0 c512_i32
  let c0_i32 : BitVec 32 := 0#32
  let v23 : BitVec 32 := Scalar.maxsi v22 c0_i32
  let c0_i32_19 : BitVec 32 := 0#32
  let v25 : BitVec 1 := Scalar.cmpi .sgt v23 c0_i32_19
  let v26 : BitVec 32 := Scalar.extui v25
  let c0_i32_20 : BitVec 32 := 0#32
  let v27 : BitVec 1 := Scalar.cmpi .slt v23 c0_i32_20
  let v28 : BitVec 32 := Scalar.extui v27
  let v29 : BitVec 32 := Scalar.subi v26 v28
  let c256_i32 : BitVec 32 := 256#32
  let c0_i32_21 : BitVec 32 := 0#32
  let v30 : BitVec 1 := Scalar.cmpi .sgt c256_i32 c0_i32_21
  let v31 : BitVec 32 := Scalar.extui v30
  let c0_i32_22 : BitVec 32 := 0#32
  let v32 : BitVec 1 := Scalar.cmpi .slt c256_i32 c0_i32_22
  let v33 : BitVec 32 := Scalar.extui v32
  let v34 : BitVec 32 := Scalar.subi v31 v33
  let v35 : BitVec 1 := Scalar.cmpi .ne v29 v34
  let v36 : BitVec 32 := Scalar.remsi v23 c256_i32
  let c0_i32_23 : BitVec 32 := 0#32
  let v37 : BitVec 1 := Scalar.cmpi .ne v36 c0_i32_23
  let v38 : BitVec 1 := Scalar.andi v35 v37
  let v24 : BitVec 32 := Scalar.divsi v23 c256_i32
  let c1_i32 : BitVec 32 := 1#32
  let v39 : BitVec 32 := Scalar.subi v24 c1_i32
  let v40 : BitVec 32 := Scalar.select v38 v39 v24
  let c2_i32 : BitVec 32 := 2#32
  let v45 : BitVec 32 := Scalar.addi v40 c2_i32
  let c15_i32_27 : BitVec 32 := 15#32
  let v46 : BitVec 32 := Scalar.minsi v45 c15_i32_27
  let c256_i32_55 : BitVec 32 := 256#32
  let v83 : BitVec 32 := Scalar.muli v46 c256_i32_55
  v83
def k0_off2 (i : grid0.Coords) (c0_i32_24 : BitVec 32) : Fin 4 → Nat :=
  let c0_2569 : Index := 0#32
  let arg1 : BitVec 32 := BitVec.ofNat 32 (i 1).val
  let c128_i32 : BitVec 32 := 128#32
  let v0 : BitVec 32 := Scalar.muli arg1 c128_i32
  let c512_i32 : BitVec 32 := 512#32
  let v22 : BitVec 32 := Scalar.subi v0 c512_i32
  let c0_i32 : BitVec 32 := 0#32
  let v23 : BitVec 32 := Scalar.maxsi v22 c0_i32
  let c0_i32_19 : BitVec 32 := 0#32
  let v25 : BitVec 1 := Scalar.cmpi .sgt v23 c0_i32_19
  let v26 : BitVec 32 := Scalar.extui v25
  let c0_i32_20 : BitVec 32 := 0#32
  let v27 : BitVec 1 := Scalar.cmpi .slt v23 c0_i32_20
  let v28 : BitVec 32 := Scalar.extui v27
  let v29 : BitVec 32 := Scalar.subi v26 v28
  let c256_i32 : BitVec 32 := 256#32
  let c0_i32_21 : BitVec 32 := 0#32
  let v30 : BitVec 1 := Scalar.cmpi .sgt c256_i32 c0_i32_21
  let v31 : BitVec 32 := Scalar.extui v30
  let c0_i32_22 : BitVec 32 := 0#32
  let v32 : BitVec 1 := Scalar.cmpi .slt c256_i32 c0_i32_22
  let v33 : BitVec 32 := Scalar.extui v32
  let v34 : BitVec 32 := Scalar.subi v31 v33
  let v35 : BitVec 1 := Scalar.cmpi .ne v29 v34
  let v36 : BitVec 32 := Scalar.remsi v23 c256_i32
  let c0_i32_23 : BitVec 32 := 0#32
  let v37 : BitVec 1 := Scalar.cmpi .ne v36 c0_i32_23
  let v38 : BitVec 1 := Scalar.andi v35 v37
  let v24 : BitVec 32 := Scalar.divsi v23 c256_i32
  let c1_i32 : BitVec 32 := 1#32
  let v39 : BitVec 32 := Scalar.subi v24 c1_i32
  let v40 : BitVec 32 := Scalar.select v38 v39 v24
  let v41 : BitVec 32 := Scalar.addi v40 c0_i32_24
  let c15_i32 : BitVec 32 := 15#32
  let v42 : BitVec 32 := Scalar.minsi v41 c15_i32
  let v7650 : Index := Scalar.indexCast v42
  let c0_2570 : Index := 0#32
  let c0_2571 : Index := 0#32
  ![0, v7650.toNat, 0, 0]
@[reducible] def k0_t1_loop (i : grid0.Coords) : Scf.Loop 32 :=
  let c0_i32_2614 : BitVec 32 := 0#32
  let arg1 : BitVec 32 := BitVec.ofNat 32 (i 1).val
  let c128_i32 : BitVec 32 := 128#32
  let v0 : BitVec 32 := Scalar.muli arg1 c128_i32
  let c128_i32_2598 : BitVec 32 := 128#32
  let v7710 : BitVec 32 := Scalar.addi v0 c128_i32_2598
  let c512_i32_2599 : BitVec 32 := 512#32
  let v7711 : BitVec 32 := Scalar.addi v7710 c512_i32_2599
  let c1_i32_2600 : BitVec 32 := 1#32
  let v7712 : BitVec 32 := Scalar.subi v7711 c1_i32_2600
  let c0_i32_2602 : BitVec 32 := 0#32
  let v7714 : BitVec 1 := Scalar.cmpi .sgt v7712 c0_i32_2602
  let v7715 : BitVec 32 := Scalar.extui v7714
  let c0_i32_2603 : BitVec 32 := 0#32
  let v7716 : BitVec 1 := Scalar.cmpi .slt v7712 c0_i32_2603
  let v7717 : BitVec 32 := Scalar.extui v7716
  let v7718 : BitVec 32 := Scalar.subi v7715 v7717
  let c512_i32_2601 : BitVec 32 := 512#32
  let c0_i32_2604 : BitVec 32 := 0#32
  let v7719 : BitVec 1 := Scalar.cmpi .sgt c512_i32_2601 c0_i32_2604
  let v7720 : BitVec 32 := Scalar.extui v7719
  let c0_i32_2605 : BitVec 32 := 0#32
  let v7721 : BitVec 1 := Scalar.cmpi .slt c512_i32_2601 c0_i32_2605
  let v7722 : BitVec 32 := Scalar.extui v7721
  let v7723 : BitVec 32 := Scalar.subi v7720 v7722
  let v7724 : BitVec 1 := Scalar.cmpi .ne v7718 v7723
  let v7725 : BitVec 32 := Scalar.remsi v7712 c512_i32_2601
  let c0_i32_2606 : BitVec 32 := 0#32
  let v7726 : BitVec 1 := Scalar.cmpi .ne v7725 c0_i32_2606
  let v7727 : BitVec 1 := Scalar.andi v7724 v7726
  let v7713 : BitVec 32 := Scalar.divsi v7712 c512_i32_2601
  let c1_i32_2607 : BitVec 32 := 1#32
  let v7728 : BitVec 32 := Scalar.subi v7713 c1_i32_2607
  let v7729 : BitVec 32 := Scalar.select v7727 v7728 v7713
  let v7736 : BitVec 32 := Scalar.subi v7729 c0_i32_2614
  let c1_i32_2615 : BitVec 32 := 1#32
  let v7738 : BitVec 32 := Scalar.divsi v7736 c1_i32_2615
  let v7739 : BitVec 32 := Scalar.muli v7738 c1_i32_2615
  let v7740 : BitVec 32 := Scalar.addi c0_i32_2614 v7739
  let c1_i32_2616 : BitVec 32 := 1#32
  ⟨c0_i32_2614, v7740, c1_i32_2616⟩
def k0_mult7 (i : grid0.Coords) (k0_t1 : Fin (k0_t1_loop i).trips) : BitVec 32 :=
  let c0_i32_2614 : BitVec 32 := 0#32
  let c1_i32_2616 : BitVec 32 := 1#32
  let arg13 : BitVec 32 := Scf.iv c0_i32_2614 c1_i32_2616 k0_t1
  let c512_i32_2654 : BitVec 32 := 512#32
  let v7921 : BitVec 32 := Scalar.muli arg13 c512_i32_2654
  v7921
def k0_off3 (i : grid0.Coords) (k0_t1 : Fin (k0_t1_loop i).trips) : Fin 3 → Nat :=
  let c0_2655 : Index := 0#32
  let c0_i32_2614 : BitVec 32 := 0#32
  let c1_i32_2616 : BitVec 32 := 1#32
  let arg13 : BitVec 32 := Scf.iv c0_i32_2614 c1_i32_2616 k0_t1
  let c512_i32_2654 : BitVec 32 := 512#32
  let v7921 : BitVec 32 := Scalar.muli arg13 c512_i32_2654
  let v7922 : BitVec 32 := v7921
  let v7923 : Index := Scalar.indexCast v7922
  let c0_2656 : Index := 0#32
  ![0, v7923.toNat, 0]
def k0_off4 (i : grid0.Coords) (k0_t1 : Fin (k0_t1_loop i).trips) (c0_i32_2658 : BitVec 32) : Fin 4 → Nat :=
  let c0_2659 : Index := 0#32
  let c2_i32_2657 : BitVec 32 := 2#32
  let c0_i32_2614 : BitVec 32 := 0#32
  let c1_i32_2616 : BitVec 32 := 1#32
  let arg13 : BitVec 32 := Scf.iv c0_i32_2614 c1_i32_2616 k0_t1
  let v7926 : BitVec 32 := Scalar.muli c2_i32_2657 arg13
  let v7927 : BitVec 32 := Scalar.addi v7926 c0_i32_2658
  let v7928 : Index := Scalar.indexCast v7927
  let c0_2660 : Index := 0#32
  let c0_2661 : Index := 0#32
  ![0, v7928.toNat, 0, 0]
def k0_off5 (i : grid0.Coords) (k0_t1 : Fin (k0_t1_loop i).trips) (c0_i32_2669 : BitVec 32) : Fin 3 → Nat :=
  let c0_2670 : Index := 0#32
  let c0_i32_2614 : BitVec 32 := 0#32
  let c1_i32_2616 : BitVec 32 := 1#32
  let arg13 : BitVec 32 := Scf.iv c0_i32_2614 c1_i32_2616 k0_t1
  let c8_i32 : BitVec 32 := 8#32
  let v7939 : BitVec 32 := Scalar.muli arg13 c8_i32
  let v7940 : BitVec 32 := Scalar.addi v7939 c0_i32_2669
  let v7941 : Index := Scalar.indexCast v7940
  let c0_2671 : Index := 0#32
  ![0, v7941.toNat, 0]
def k0_off6 (i : grid0.Coords) (k0_t1 : Fin (k0_t1_loop i).trips) (c0_i32_2705 : BitVec 32) : Fin 3 → Nat :=
  let c1_2706 : Index := 1#32
  let c0_i32_2614 : BitVec 32 := 0#32
  let c1_i32_2616 : BitVec 32 := 1#32
  let arg13 : BitVec 32 := Scf.iv c0_i32_2614 c1_i32_2616 k0_t1
  let c8_i32_2704 : BitVec 32 := 8#32
  let v8016 : BitVec 32 := Scalar.muli arg13 c8_i32_2704
  let v8017 : BitVec 32 := Scalar.addi v8016 c0_i32_2705
  let v8018 : Index := Scalar.indexCast v8017
  let c0_2707 : Index := 0#32
  ![1, v8018.toNat, 0]
@[reducible] def k0_t2_loop (i : grid0.Coords) : Scf.Loop 32 :=
  let c0_i32_2614 : BitVec 32 := 0#32
  let arg1 : BitVec 32 := BitVec.ofNat 32 (i 1).val
  let c128_i32 : BitVec 32 := 128#32
  let v0 : BitVec 32 := Scalar.muli arg1 c128_i32
  let c128_i32_2598 : BitVec 32 := 128#32
  let v7710 : BitVec 32 := Scalar.addi v0 c128_i32_2598
  let c512_i32_2599 : BitVec 32 := 512#32
  let v7711 : BitVec 32 := Scalar.addi v7710 c512_i32_2599
  let c1_i32_2600 : BitVec 32 := 1#32
  let v7712 : BitVec 32 := Scalar.subi v7711 c1_i32_2600
  let c0_i32_2602 : BitVec 32 := 0#32
  let v7714 : BitVec 1 := Scalar.cmpi .sgt v7712 c0_i32_2602
  let v7715 : BitVec 32 := Scalar.extui v7714
  let c0_i32_2603 : BitVec 32 := 0#32
  let v7716 : BitVec 1 := Scalar.cmpi .slt v7712 c0_i32_2603
  let v7717 : BitVec 32 := Scalar.extui v7716
  let v7718 : BitVec 32 := Scalar.subi v7715 v7717
  let c512_i32_2601 : BitVec 32 := 512#32
  let c0_i32_2604 : BitVec 32 := 0#32
  let v7719 : BitVec 1 := Scalar.cmpi .sgt c512_i32_2601 c0_i32_2604
  let v7720 : BitVec 32 := Scalar.extui v7719
  let c0_i32_2605 : BitVec 32 := 0#32
  let v7721 : BitVec 1 := Scalar.cmpi .slt c512_i32_2601 c0_i32_2605
  let v7722 : BitVec 32 := Scalar.extui v7721
  let v7723 : BitVec 32 := Scalar.subi v7720 v7722
  let v7724 : BitVec 1 := Scalar.cmpi .ne v7718 v7723
  let v7725 : BitVec 32 := Scalar.remsi v7712 c512_i32_2601
  let c0_i32_2606 : BitVec 32 := 0#32
  let v7726 : BitVec 1 := Scalar.cmpi .ne v7725 c0_i32_2606
  let v7727 : BitVec 1 := Scalar.andi v7724 v7726
  let v7713 : BitVec 32 := Scalar.divsi v7712 c512_i32_2601
  let c1_i32_2607 : BitVec 32 := 1#32
  let v7728 : BitVec 32 := Scalar.subi v7713 c1_i32_2607
  let v7729 : BitVec 32 := Scalar.select v7727 v7728 v7713
  let v7736 : BitVec 32 := Scalar.subi v7729 c0_i32_2614
  let c1_i32_2615 : BitVec 32 := 1#32
  let v7738 : BitVec 32 := Scalar.divsi v7736 c1_i32_2615
  let v7739 : BitVec 32 := Scalar.muli v7738 c1_i32_2615
  let v7740 : BitVec 32 := Scalar.addi c0_i32_2614 v7739
  let v7737 : BitVec 32 := Scalar.addi c0_i32_2614 v7736
  let c1_i32_2617 : BitVec 32 := 1#32
  ⟨v7740, v7737, c1_i32_2617⟩
def k0_mult8 (i : grid0.Coords) (k0_t2 : Fin (k0_t2_loop i).trips) : BitVec 32 :=
  let c0_i32_2614 : BitVec 32 := 0#32
  let arg1 : BitVec 32 := BitVec.ofNat 32 (i 1).val
  let c128_i32 : BitVec 32 := 128#32
  let v0 : BitVec 32 := Scalar.muli arg1 c128_i32
  let c128_i32_2598 : BitVec 32 := 128#32
  let v7710 : BitVec 32 := Scalar.addi v0 c128_i32_2598
  let c512_i32_2599 : BitVec 32 := 512#32
  let v7711 : BitVec 32 := Scalar.addi v7710 c512_i32_2599
  let c1_i32_2600 : BitVec 32 := 1#32
  let v7712 : BitVec 32 := Scalar.subi v7711 c1_i32_2600
  let c0_i32_2602 : BitVec 32 := 0#32
  let v7714 : BitVec 1 := Scalar.cmpi .sgt v7712 c0_i32_2602
  let v7715 : BitVec 32 := Scalar.extui v7714
  let c0_i32_2603 : BitVec 32 := 0#32
  let v7716 : BitVec 1 := Scalar.cmpi .slt v7712 c0_i32_2603
  let v7717 : BitVec 32 := Scalar.extui v7716
  let v7718 : BitVec 32 := Scalar.subi v7715 v7717
  let c512_i32_2601 : BitVec 32 := 512#32
  let c0_i32_2604 : BitVec 32 := 0#32
  let v7719 : BitVec 1 := Scalar.cmpi .sgt c512_i32_2601 c0_i32_2604
  let v7720 : BitVec 32 := Scalar.extui v7719
  let c0_i32_2605 : BitVec 32 := 0#32
  let v7721 : BitVec 1 := Scalar.cmpi .slt c512_i32_2601 c0_i32_2605
  let v7722 : BitVec 32 := Scalar.extui v7721
  let v7723 : BitVec 32 := Scalar.subi v7720 v7722
  let v7724 : BitVec 1 := Scalar.cmpi .ne v7718 v7723
  let v7725 : BitVec 32 := Scalar.remsi v7712 c512_i32_2601
  let c0_i32_2606 : BitVec 32 := 0#32
  let v7726 : BitVec 1 := Scalar.cmpi .ne v7725 c0_i32_2606
  let v7727 : BitVec 1 := Scalar.andi v7724 v7726
  let v7713 : BitVec 32 := Scalar.divsi v7712 c512_i32_2601
  let c1_i32_2607 : BitVec 32 := 1#32
  let v7728 : BitVec 32 := Scalar.subi v7713 c1_i32_2607
  let v7729 : BitVec 32 := Scalar.select v7727 v7728 v7713
  let v7736 : BitVec 32 := Scalar.subi v7729 c0_i32_2614
  let c1_i32_2615 : BitVec 32 := 1#32
  let v7738 : BitVec 32 := Scalar.divsi v7736 c1_i32_2615
  let v7739 : BitVec 32 := Scalar.muli v7738 c1_i32_2615
  let v7740 : BitVec 32 := Scalar.addi c0_i32_2614 v7739
  let c1_i32_2617 : BitVec 32 := 1#32
  let arg13 : BitVec 32 := Scf.iv v7740 c1_i32_2617 k0_t2
  let c512_i32_2654 : BitVec 32 := 512#32
  let v7921 : BitVec 32 := Scalar.muli arg13 c512_i32_2654
  v7921
def k0_off7 (i : grid0.Coords) (k0_t2 : Fin (k0_t2_loop i).trips) : Fin 3 → Nat :=
  let c0_2655 : Index := 0#32
  let c0_i32_2614 : BitVec 32 := 0#32
  let arg1 : BitVec 32 := BitVec.ofNat 32 (i 1).val
  let c128_i32 : BitVec 32 := 128#32
  let v0 : BitVec 32 := Scalar.muli arg1 c128_i32
  let c128_i32_2598 : BitVec 32 := 128#32
  let v7710 : BitVec 32 := Scalar.addi v0 c128_i32_2598
  let c512_i32_2599 : BitVec 32 := 512#32
  let v7711 : BitVec 32 := Scalar.addi v7710 c512_i32_2599
  let c1_i32_2600 : BitVec 32 := 1#32
  let v7712 : BitVec 32 := Scalar.subi v7711 c1_i32_2600
  let c0_i32_2602 : BitVec 32 := 0#32
  let v7714 : BitVec 1 := Scalar.cmpi .sgt v7712 c0_i32_2602
  let v7715 : BitVec 32 := Scalar.extui v7714
  let c0_i32_2603 : BitVec 32 := 0#32
  let v7716 : BitVec 1 := Scalar.cmpi .slt v7712 c0_i32_2603
  let v7717 : BitVec 32 := Scalar.extui v7716
  let v7718 : BitVec 32 := Scalar.subi v7715 v7717
  let c512_i32_2601 : BitVec 32 := 512#32
  let c0_i32_2604 : BitVec 32 := 0#32
  let v7719 : BitVec 1 := Scalar.cmpi .sgt c512_i32_2601 c0_i32_2604
  let v7720 : BitVec 32 := Scalar.extui v7719
  let c0_i32_2605 : BitVec 32 := 0#32
  let v7721 : BitVec 1 := Scalar.cmpi .slt c512_i32_2601 c0_i32_2605
  let v7722 : BitVec 32 := Scalar.extui v7721
  let v7723 : BitVec 32 := Scalar.subi v7720 v7722
  let v7724 : BitVec 1 := Scalar.cmpi .ne v7718 v7723
  let v7725 : BitVec 32 := Scalar.remsi v7712 c512_i32_2601
  let c0_i32_2606 : BitVec 32 := 0#32
  let v7726 : BitVec 1 := Scalar.cmpi .ne v7725 c0_i32_2606
  let v7727 : BitVec 1 := Scalar.andi v7724 v7726
  let v7713 : BitVec 32 := Scalar.divsi v7712 c512_i32_2601
  let c1_i32_2607 : BitVec 32 := 1#32
  let v7728 : BitVec 32 := Scalar.subi v7713 c1_i32_2607
  let v7729 : BitVec 32 := Scalar.select v7727 v7728 v7713
  let v7736 : BitVec 32 := Scalar.subi v7729 c0_i32_2614
  let c1_i32_2615 : BitVec 32 := 1#32
  let v7738 : BitVec 32 := Scalar.divsi v7736 c1_i32_2615
  let v7739 : BitVec 32 := Scalar.muli v7738 c1_i32_2615
  let v7740 : BitVec 32 := Scalar.addi c0_i32_2614 v7739
  let c1_i32_2617 : BitVec 32 := 1#32
  let arg13 : BitVec 32 := Scf.iv v7740 c1_i32_2617 k0_t2
  let c512_i32_2654 : BitVec 32 := 512#32
  let v7921 : BitVec 32 := Scalar.muli arg13 c512_i32_2654
  let v7922 : BitVec 32 := v7921
  let v7923 : Index := Scalar.indexCast v7922
  let c0_2656 : Index := 0#32
  ![0, v7923.toNat, 0]
def k0_off8 (i : grid0.Coords) (k0_t2 : Fin (k0_t2_loop i).trips) (c0_i32_2658 : BitVec 32) : Fin 4 → Nat :=
  let c0_2659 : Index := 0#32
  let c2_i32_2657 : BitVec 32 := 2#32
  let c0_i32_2614 : BitVec 32 := 0#32
  let arg1 : BitVec 32 := BitVec.ofNat 32 (i 1).val
  let c128_i32 : BitVec 32 := 128#32
  let v0 : BitVec 32 := Scalar.muli arg1 c128_i32
  let c128_i32_2598 : BitVec 32 := 128#32
  let v7710 : BitVec 32 := Scalar.addi v0 c128_i32_2598
  let c512_i32_2599 : BitVec 32 := 512#32
  let v7711 : BitVec 32 := Scalar.addi v7710 c512_i32_2599
  let c1_i32_2600 : BitVec 32 := 1#32
  let v7712 : BitVec 32 := Scalar.subi v7711 c1_i32_2600
  let c0_i32_2602 : BitVec 32 := 0#32
  let v7714 : BitVec 1 := Scalar.cmpi .sgt v7712 c0_i32_2602
  let v7715 : BitVec 32 := Scalar.extui v7714
  let c0_i32_2603 : BitVec 32 := 0#32
  let v7716 : BitVec 1 := Scalar.cmpi .slt v7712 c0_i32_2603
  let v7717 : BitVec 32 := Scalar.extui v7716
  let v7718 : BitVec 32 := Scalar.subi v7715 v7717
  let c512_i32_2601 : BitVec 32 := 512#32
  let c0_i32_2604 : BitVec 32 := 0#32
  let v7719 : BitVec 1 := Scalar.cmpi .sgt c512_i32_2601 c0_i32_2604
  let v7720 : BitVec 32 := Scalar.extui v7719
  let c0_i32_2605 : BitVec 32 := 0#32
  let v7721 : BitVec 1 := Scalar.cmpi .slt c512_i32_2601 c0_i32_2605
  let v7722 : BitVec 32 := Scalar.extui v7721
  let v7723 : BitVec 32 := Scalar.subi v7720 v7722
  let v7724 : BitVec 1 := Scalar.cmpi .ne v7718 v7723
  let v7725 : BitVec 32 := Scalar.remsi v7712 c512_i32_2601
  let c0_i32_2606 : BitVec 32 := 0#32
  let v7726 : BitVec 1 := Scalar.cmpi .ne v7725 c0_i32_2606
  let v7727 : BitVec 1 := Scalar.andi v7724 v7726
  let v7713 : BitVec 32 := Scalar.divsi v7712 c512_i32_2601
  let c1_i32_2607 : BitVec 32 := 1#32
  let v7728 : BitVec 32 := Scalar.subi v7713 c1_i32_2607
  let v7729 : BitVec 32 := Scalar.select v7727 v7728 v7713
  let v7736 : BitVec 32 := Scalar.subi v7729 c0_i32_2614
  let c1_i32_2615 : BitVec 32 := 1#32
  let v7738 : BitVec 32 := Scalar.divsi v7736 c1_i32_2615
  let v7739 : BitVec 32 := Scalar.muli v7738 c1_i32_2615
  let v7740 : BitVec 32 := Scalar.addi c0_i32_2614 v7739
  let c1_i32_2617 : BitVec 32 := 1#32
  let arg13 : BitVec 32 := Scf.iv v7740 c1_i32_2617 k0_t2
  let v7926 : BitVec 32 := Scalar.muli c2_i32_2657 arg13
  let v7927 : BitVec 32 := Scalar.addi v7926 c0_i32_2658
  let v7928 : Index := Scalar.indexCast v7927
  let c0_2660 : Index := 0#32
  let c0_2661 : Index := 0#32
  ![0, v7928.toNat, 0, 0]
def k0_off9 (i : grid0.Coords) (k0_t2 : Fin (k0_t2_loop i).trips) (c0_i32_2669 : BitVec 32) : Fin 3 → Nat :=
  let c0_2670 : Index := 0#32
  let c0_i32_2614 : BitVec 32 := 0#32
  let arg1 : BitVec 32 := BitVec.ofNat 32 (i 1).val
  let c128_i32 : BitVec 32 := 128#32
  let v0 : BitVec 32 := Scalar.muli arg1 c128_i32
  let c128_i32_2598 : BitVec 32 := 128#32
  let v7710 : BitVec 32 := Scalar.addi v0 c128_i32_2598
  let c512_i32_2599 : BitVec 32 := 512#32
  let v7711 : BitVec 32 := Scalar.addi v7710 c512_i32_2599
  let c1_i32_2600 : BitVec 32 := 1#32
  let v7712 : BitVec 32 := Scalar.subi v7711 c1_i32_2600
  let c0_i32_2602 : BitVec 32 := 0#32
  let v7714 : BitVec 1 := Scalar.cmpi .sgt v7712 c0_i32_2602
  let v7715 : BitVec 32 := Scalar.extui v7714
  let c0_i32_2603 : BitVec 32 := 0#32
  let v7716 : BitVec 1 := Scalar.cmpi .slt v7712 c0_i32_2603
  let v7717 : BitVec 32 := Scalar.extui v7716
  let v7718 : BitVec 32 := Scalar.subi v7715 v7717
  let c512_i32_2601 : BitVec 32 := 512#32
  let c0_i32_2604 : BitVec 32 := 0#32
  let v7719 : BitVec 1 := Scalar.cmpi .sgt c512_i32_2601 c0_i32_2604
  let v7720 : BitVec 32 := Scalar.extui v7719
  let c0_i32_2605 : BitVec 32 := 0#32
  let v7721 : BitVec 1 := Scalar.cmpi .slt c512_i32_2601 c0_i32_2605
  let v7722 : BitVec 32 := Scalar.extui v7721
  let v7723 : BitVec 32 := Scalar.subi v7720 v7722
  let v7724 : BitVec 1 := Scalar.cmpi .ne v7718 v7723
  let v7725 : BitVec 32 := Scalar.remsi v7712 c512_i32_2601
  let c0_i32_2606 : BitVec 32 := 0#32
  let v7726 : BitVec 1 := Scalar.cmpi .ne v7725 c0_i32_2606
  let v7727 : BitVec 1 := Scalar.andi v7724 v7726
  let v7713 : BitVec 32 := Scalar.divsi v7712 c512_i32_2601
  let c1_i32_2607 : BitVec 32 := 1#32
  let v7728 : BitVec 32 := Scalar.subi v7713 c1_i32_2607
  let v7729 : BitVec 32 := Scalar.select v7727 v7728 v7713
  let v7736 : BitVec 32 := Scalar.subi v7729 c0_i32_2614
  let c1_i32_2615 : BitVec 32 := 1#32
  let v7738 : BitVec 32 := Scalar.divsi v7736 c1_i32_2615
  let v7739 : BitVec 32 := Scalar.muli v7738 c1_i32_2615
  let v7740 : BitVec 32 := Scalar.addi c0_i32_2614 v7739
  let c1_i32_2617 : BitVec 32 := 1#32
  let arg13 : BitVec 32 := Scf.iv v7740 c1_i32_2617 k0_t2
  let c8_i32 : BitVec 32 := 8#32
  let v7939 : BitVec 32 := Scalar.muli arg13 c8_i32
  let v7940 : BitVec 32 := Scalar.addi v7939 c0_i32_2669
  let v7941 : Index := Scalar.indexCast v7940
  let c0_2671 : Index := 0#32
  ![0, v7941.toNat, 0]
def k0_off10 (i : grid0.Coords) (k0_t2 : Fin (k0_t2_loop i).trips) (c0_i32_2705 : BitVec 32) : Fin 3 → Nat :=
  let c1_2706 : Index := 1#32
  let c0_i32_2614 : BitVec 32 := 0#32
  let arg1 : BitVec 32 := BitVec.ofNat 32 (i 1).val
  let c128_i32 : BitVec 32 := 128#32
  let v0 : BitVec 32 := Scalar.muli arg1 c128_i32
  let c128_i32_2598 : BitVec 32 := 128#32
  let v7710 : BitVec 32 := Scalar.addi v0 c128_i32_2598
  let c512_i32_2599 : BitVec 32 := 512#32
  let v7711 : BitVec 32 := Scalar.addi v7710 c512_i32_2599
  let c1_i32_2600 : BitVec 32 := 1#32
  let v7712 : BitVec 32 := Scalar.subi v7711 c1_i32_2600
  let c0_i32_2602 : BitVec 32 := 0#32
  let v7714 : BitVec 1 := Scalar.cmpi .sgt v7712 c0_i32_2602
  let v7715 : BitVec 32 := Scalar.extui v7714
  let c0_i32_2603 : BitVec 32 := 0#32
  let v7716 : BitVec 1 := Scalar.cmpi .slt v7712 c0_i32_2603
  let v7717 : BitVec 32 := Scalar.extui v7716
  let v7718 : BitVec 32 := Scalar.subi v7715 v7717
  let c512_i32_2601 : BitVec 32 := 512#32
  let c0_i32_2604 : BitVec 32 := 0#32
  let v7719 : BitVec 1 := Scalar.cmpi .sgt c512_i32_2601 c0_i32_2604
  let v7720 : BitVec 32 := Scalar.extui v7719
  let c0_i32_2605 : BitVec 32 := 0#32
  let v7721 : BitVec 1 := Scalar.cmpi .slt c512_i32_2601 c0_i32_2605
  let v7722 : BitVec 32 := Scalar.extui v7721
  let v7723 : BitVec 32 := Scalar.subi v7720 v7722
  let v7724 : BitVec 1 := Scalar.cmpi .ne v7718 v7723
  let v7725 : BitVec 32 := Scalar.remsi v7712 c512_i32_2601
  let c0_i32_2606 : BitVec 32 := 0#32
  let v7726 : BitVec 1 := Scalar.cmpi .ne v7725 c0_i32_2606
  let v7727 : BitVec 1 := Scalar.andi v7724 v7726
  let v7713 : BitVec 32 := Scalar.divsi v7712 c512_i32_2601
  let c1_i32_2607 : BitVec 32 := 1#32
  let v7728 : BitVec 32 := Scalar.subi v7713 c1_i32_2607
  let v7729 : BitVec 32 := Scalar.select v7727 v7728 v7713
  let v7736 : BitVec 32 := Scalar.subi v7729 c0_i32_2614
  let c1_i32_2615 : BitVec 32 := 1#32
  let v7738 : BitVec 32 := Scalar.divsi v7736 c1_i32_2615
  let v7739 : BitVec 32 := Scalar.muli v7738 c1_i32_2615
  let v7740 : BitVec 32 := Scalar.addi c0_i32_2614 v7739
  let c1_i32_2617 : BitVec 32 := 1#32
  let arg13 : BitVec 32 := Scf.iv v7740 c1_i32_2617 k0_t2
  let c8_i32_2704 : BitVec 32 := 8#32
  let v8016 : BitVec 32 := Scalar.muli arg13 c8_i32_2704
  let v8017 : BitVec 32 := Scalar.addi v8016 c0_i32_2705
  let v8018 : Index := Scalar.indexCast v8017
  let c0_2707 : Index := 0#32
  ![1, v8018.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S64x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Proof.DenseParts.lean ====
module

public import proofs.«01_k».proof.Proof.Gen.KernelIdeal.Value
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
open Idealize.ShloMosaic.Pipeline (Dat)
namespace Cert.KernelIdeal.DenseValue
open Cert.KernelIdeal Cert.KernelIdeal.Gen
variable (m : (ℓ : Loc nD τ sig) → Buf (Elt Ideal) ℓ)

/-- One head's share of the gate of expert `(a, b)` for token `n`: the product of the pair's two factors where the head chose it. -/
def share (K T E C : FVec Ideal S8x128x512 .f32) (h : Fin 8) (a b : Fin 128) (n : Fin 512) : EReal :=
  if T (ix3 h a n) ≤ K (ix3 h b n) then E (ix3 h b n) * C (ix3 h a n) else 0

/-- The eight heads' shares added up in the order the body adds them. -/
def gate (K T E C : FVec Ideal S8x128x512 .f32) (a b : Fin 128) (n : Fin 512) : EReal :=
  share K T E C 0 a b n + share K T E C 1 a b n + share K T E C 2 a b n + share K T E C 3 a b n + share K T E C 4 a b n
    + share K T E C 5 a b n + share K T E C 6 a b n + share K T E C 7 a b n

/-- The exact gelu of `p`, as the body spells it. -/
def gelu (p : EReal) : EReal :=
  Ideal.ofBits FTy.f32 1056964608#32 * p * (1 + FloatOps.erf (F := Ideal) (φ := .f32) (p * Ideal.ofBits FTy.f32 1060439283#32))

/-- The gated activation the body writes for row `128 r + b` of point column `q`, token `n` of the block. -/
def act (K T E C : FVec Ideal S8x128x512 .f32) (U : FVec Ideal S2048x1024 .bf16) (H : FVec Ideal S512x1024 .bf16)
    (q : Fin 8) (r : Fin 16) (b : Fin 128) (n : Fin 512) : EReal :=
  gate K T E C ⟨16 * q.val + r.val, by omega⟩ b n
    * gelu (∑ k : Fin 1024, U (ix2 ⟨128 * r.val + b.val, by omega⟩ k) * H (ix2 n k))

theorem act_at (K T E C : FVec Ideal S8x128x512 .f32) (U : FVec Ideal S2048x1024 .bf16) (H : FVec Ideal S512x1024 .bf16)
    (q : Fin 8) (b n : Fin 128) (i : S2048x512.Idx) {R L : ℕ} (h0 : (i 0 : ℕ) = R + b.val) (h1 : (i 1 : ℕ) = L + n.val)
    (hR : R % 128 = 0) (hR' : R / 128 < 16) (hL : L + 128 ≤ 512) :
    act K T E C U H q ⟨(i 0 : ℕ) / 128, by have := (i 0).isLt; change _ < 2048 at this; omega⟩ ⟨(i 0 : ℕ) % 128, by omega⟩ (i 1)
      = act K T E C U H q ⟨R / 128, hR'⟩ b ⟨L + n.val, by omega⟩ := by
  have e1 : (⟨(i 0 : ℕ) / 128, by have := (i 0).isLt; change _ < 2048 at this; omega⟩ : Fin 16) = ⟨R / 128, hR'⟩ :=
    Fin.ext (by simp only; omega)
  have e2 : (⟨(i 0 : ℕ) % 128, by omega⟩ : Fin 128) = b := Fin.ext (by simp only; omega)
  have e3 : (i 1 : Fin 512) = ⟨L + n.val, by omega⟩ := Fin.ext h1
  rw [e1, e2, e3]; rfl

theorem act_zero (K T E C : FVec Ideal S8x128x512 .f32) (U : FVec Ideal S2048x1024 .bf16) (H : FVec Ideal S512x1024 .bf16)
    (q : Fin 8) (b : Fin 128) (n : Fin 512) :
    act K T E C U H q ⟨0, by decide⟩ b n = gate K T E C ⟨16 * q.val + 0, by omega⟩ b n
      * gelu (∑ k : Fin 1024, U (ix2 ⟨b.val, by omega⟩ k) * H (ix2 n k)) := by
  unfold act
  simp only [Nat.mul_zero, Nat.zero_add]

theorem off1 (i : grid0.Coords) (n : ℕ) (h : n < 16) : k0_off1 i (BitVec.ofNat 32 n) = ![0, 16 * (i 1).val + n, 0] := k0_off1_eq i ⟨n, h⟩
theorem off2 (i : grid0.Coords) (n : ℕ) (h : n < 16) : k0_off2 i (BitVec.ofNat 32 n) = ![1, 16 * (i 1).val + n, 0] := k0_off2_eq i ⟨n, h⟩
theorem off3 (i : grid0.Coords) (n : ℕ) (h : n < 16) : k0_off3 i (BitVec.ofNat 32 n) = ![2, 16 * (i 1).val + n, 0] := k0_off3_eq i ⟨n, h⟩
theorem off4 (i : grid0.Coords) (n : ℕ) (h : n < 16) : k0_off4 i (BitVec.ofNat 32 n) = ![3, 16 * (i 1).val + n, 0] := k0_off4_eq i ⟨n, h⟩
theorem off5 (i : grid0.Coords) (n : ℕ) (h : n < 16) : k0_off5 i (BitVec.ofNat 32 n) = ![4, 16 * (i 1).val + n, 0] := k0_off5_eq i ⟨n, h⟩
theorem off6 (i : grid0.Coords) (n : ℕ) (h : n < 16) : k0_off6 i (BitVec.ofNat 32 n) = ![5, 16 * (i 1).val + n, 0] := k0_off6_eq i ⟨n, h⟩
theorem off7 (i : grid0.Coords) (n : ℕ) (h : n < 16) : k0_off7 i (BitVec.ofNat 32 n) = ![6, 16 * (i 1).val + n, 0] := k0_off7_eq i ⟨n, h⟩
theorem off8 (i : grid0.Coords) (n : ℕ) (h : n < 16) : k0_off8 i (BitVec.ofNat 32 n) = ![7, 16 * (i 1).val + n, 0] := k0_off8_eq i ⟨n, h⟩

theorem idx_whole (i : S2048x512.Idx) : (Rect.unit (s := S2048x512) ![0, 0] ![2048, 512] inb_S2048x512_S2048x512_0_0).idx i = i := by
  funext a
  fin_cases a <;> exact Fin.ext (by simp [Rect.unit])

set_option maxHeartbeats 8000000 in
theorem parts (c : Dev nD) : ∃ G : Fin cfg0.N → Vec Ideal S2048x512 .bf16,
    (∀ t : Fin cfg0.N, ∀ (h0 : t.val % 8 = 0) (h1 : ¬t.val % 8 = 7),
      (outsAt0 m c t.val t.isLt).2 = k0_pay516 (F := Ideal) (k0_pay2 (F := Ideal)) (iblk m c 3 t) (G t)) ∧
    (∀ t : Fin cfg0.N, ∀ (h0 : ¬t.val % 8 = 0) (h1 : ¬t.val % 8 = 7),
      (outsAt0 m c t.val t.isLt).2 = k0_pay516 (F := Ideal) (outsAt0 m c (t.val - 1) (by omega)).2 (iblk m c 3 t) (G t)) ∧
    (∀ t : Fin cfg0.N, ∀ (h0 : ¬t.val % 8 = 0) (h1 : t.val % 8 = 7),
      (outsAt0 m c t.val t.isLt).2 = k0_pay516 (F := Ideal) (outsAt0 m c (t.val - 1) (by omega)).2 (iblk m c 3 t) (G t)) ∧
    (∀ t : Fin cfg0.N, ∀ (h0 : ¬t.val % 8 = 0) (h1 : t.val % 8 = 7),
      (outsAt0 m c t.val t.isLt).1 = k0_pay1 (F := Ideal) (iblk m c 1 t) (outsAt0 m c t.val t.isLt).2) ∧
    ∀ (t : Fin cfg0.N) (i : S2048x512.Idx), G t i
      = act (iblk m c 7 t) (iblk m c 5 t) (iblk m c 6 t) (iblk m c 4 t) (iblk m c 2 t) (iblk m c 0 t) (grid0.coords t 1)
        ⟨(i 0 : ℕ) / 128, by have := (i 0).isLt; change _ < 2048 at this; omega⟩ ⟨(i 0 : ℕ) % 128, by omega⟩ (i 1) := by
  apply Exists.intro
  refine ⟨fun t h0 h1 => ?_, fun t h0 h1 => ?_, fun t h0 h1 => ?_, fun t h0 h1 => ?_, fun t i => ?_⟩
  · rw [outsAt0_A m c t h0 h1]
    frame_out
    rfl
  · rw [outsAt0_B m c t h0 h1]
    frame_out
    exact congrArg (fun a => k0_pay516 (F := Ideal) a (iblk m c 3 t) _) (read_unread_whole _ _ _)
  · rw [outsAt0_C m c t h0 h1]
    frame_out
    exact congrArg (fun a => k0_pay516 (F := Ideal) a (iblk m c 3 t) _) (read_unread_whole _ _ _)
  · rw [outsAt0_C m c t h0 h1]
    frame_out
  · simp only [View.readCov_eq_canon']
    rw [idx_whole]
    canon_tiles x h
    all_goals
      first
        | refine Eq.trans ?_ (act_at _ _ _ _ _ _ _ (x 0) (x 1) i h0 h1 (by decide) (by decide) (by decide)).symm
        | refine Eq.trans ?_ (act_at _ _ _ _ _ _ _ (x 0) (x 1) i h0 (h1.trans (Nat.zero_add _).symm) (by decide) (by decide) (by decide)).symm
        | refine Eq.trans ?_ (act_at _ _ _ _ _ _ _ (x 0) (x 1) i (h0.trans (Nat.zero_add _).symm) h1 (by decide) (by decide) (by decide)).symm
        | refine Eq.trans ?_ (act_at _ _ _ _ _ _ _ (x 0) (x 1) i (h0.trans (Nat.zero_add _).symm) (h1.trans (Nat.zero_add _).symm) (by decide) (by decide) (by decide)).symm
      open_payloads
      pointwise
      simp only [off1, off2, off3, off4, off5, off6, off7, off8, Nat.reduceLT, Matrix.cons_val_zero, Matrix.cons_val_one, Matrix.cons_val, zero_add]
      first
        | rfl
        | (refine Eq.trans ?_ (act_zero _ _ _ _ _ _ _ _ _).symm; rfl)
-- ==== Proof.DenseValue.lean ====
module

public import proofs.«01_k».proof.Proof.DenseParts
public import proofs.«01_k».proof.Proof.Gen.ReferenceIdeal.Run
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.KernelIdeal.DenseValue
open Cert.KernelIdeal Cert.KernelIdeal.Gen
variable (m : (ℓ : Loc nD τ sig) → Buf (Elt Ideal) ℓ)

abbrev arg0 (c : Dev nD) : FVec Ideal S16384x1024 .bf16 := m ((c : Thread nD τ).loc main_arg0)
abbrev arg1 (c : Dev nD) : FVec Ideal S16384x1024 .f32 := m ((c : Thread nD τ).loc main_arg1)
abbrev arg2 (c : Dev nD) : FVec Ideal S16384x1024 .f32 := m ((c : Thread nD τ).loc main_arg2)
abbrev arg3 (c : Dev nD) : FVec Ideal S16384x1024 .f32 := m ((c : Thread nD τ).loc main_arg3)
abbrev arg4 (c : Dev nD) : FVec Ideal S8x128x16384 .f32 := m ((c : Thread nD τ).loc main_arg4)
abbrev arg5 (c : Dev nD) : FVec Ideal S8x128x16384 .f32 := m ((c : Thread nD τ).loc main_arg5)
abbrev arg6 (c : Dev nD) : FVec Ideal S8x128x16384 .f32 := m ((c : Thread nD τ).loc main_arg6)
abbrev arg7 (c : Dev nD) : FVec Ideal S8x128x16384 .f32 := m ((c : Thread nD τ).loc main_arg7)

/-- Where each window's block sits at a grid point, and the second grid coordinate. -/
theorem idx : ∀ t : Fin cfg0.N, win0_0.index t = ![t.val / 8, 0] ∧ win0_1.index t = ![t.val / 8, 0]
    ∧ win0_2.index t = ![t.val % 8, 0] ∧ win0_3.index t = ![0, t.val % 8]
    ∧ win0_4.index t = ![0, 0, t.val / 8] ∧ win0_5.index t = ![0, 0, t.val / 8]
    ∧ win0_6.index t = ![0, 0, t.val / 8] ∧ win0_7.index t = ![0, 0, t.val / 8]
    ∧ win0_8.index t = ![t.val / 8, 0] ∧ (grid0.coords t 1).val = t.val % 8 ∧ t.val < 256 :=
  (by decide +kernel : ∀ t : Fin grid0.N, _)

section blocks
variable (c : Dev nD) (t : Fin cfg0.N)

theorem rd0 (n : Fin 512) (k : Fin 1024) :
    iblk m c 0 t (ix2 n k) = arg0 m c (ix2 ⟨512 * (t.val / 8) + n.val, by have := (idx t).2.2.2.2.2.2.2.2.2.2; omega⟩ k) := by
  blk_ext [iblk, V, idx t]
theorem rd1 (n : Fin 512) (k : Fin 1024) :
    iblk m c 1 t (ix2 n k) = arg1 m c (ix2 ⟨512 * (t.val / 8) + n.val, by have := (idx t).2.2.2.2.2.2.2.2.2.2; omega⟩ k) := by
  blk_ext [iblk, V, idx t]
theorem rd2 (e : Fin 2048) (k : Fin 1024) :
    iblk m c 2 t (ix2 e k) = arg2 m c (ix2 ⟨2048 * (t.val % 8) + e.val, by omega⟩ k) := by
  blk_point [iblk, V, idx t]
theorem rd3 (d : Fin 1024) (e : Fin 2048) :
    iblk m c 3 t (ix2 d e) = arg3 m c (ix2 ⟨2048 * (t.val % 8) + e.val, by omega⟩ d) := by
  blk_point [iblk, V, idx t]
theorem rd4 (h : Fin 8) (a : Fin 128) (n : Fin 512) :
    iblk m c 4 t (ix3 h a n) = arg4 m c (ix3 h a ⟨512 * (t.val / 8) + n.val, by have := (idx t).2.2.2.2.2.2.2.2.2.2; omega⟩) := by
  blk_ext [iblk, V, idx t]
theorem rd5 (h : Fin 8) (a : Fin 128) (n : Fin 512) :
    iblk m c 5 t (ix3 h a n) = arg5 m c (ix3 h a ⟨512 * (t.val / 8) + n.val, by have := (idx t).2.2.2.2.2.2.2.2.2.2; omega⟩) := by
  blk_ext [iblk, V, idx t]
theorem rd6 (h : Fin 8) (a : Fin 128) (n : Fin 512) :
    iblk m c 6 t (ix3 h a n) = arg6 m c (ix3 h a ⟨512 * (t.val / 8) + n.val, by have := (idx t).2.2.2.2.2.2.2.2.2.2; omega⟩) := by
  blk_ext [iblk, V, idx t]
theorem rd7 (h : Fin 8) (a : Fin 128) (n : Fin 512) :
    iblk m c 7 t (ix3 h a n) = arg7 m c (ix3 h a ⟨512 * (t.val / 8) + n.val, by have := (idx t).2.2.2.2.2.2.2.2.2.2; omega⟩) := by
  blk_ext [iblk, V, idx t]
end blocks

/-- The gated activation of expert `e` for token `n`, over the whole arrays. -/
def ACT (H : FVec Ideal S16384x1024 .bf16) (U : FVec Ideal S16384x1024 .f32) (C T E K : FVec Ideal S8x128x16384 .f32)
    (n e : Fin 16384) : EReal :=
  (∑ h : Fin 8, if T (ix3 h ⟨e.val / 128, by omega⟩ n) ≤ K (ix3 h ⟨e.val % 128, by omega⟩ n)
      then C (ix3 h ⟨e.val / 128, by omega⟩ n) * E (ix3 h ⟨e.val % 128, by omega⟩ n) else 0)
    * gelu (∑ k : Fin 1024, H (ix2 n k) * U (ix2 e k))

/-- A head's share over the block is its share over the whole arrays. -/
theorem share_blk (c : Dev nD) (t : Fin cfg0.N) (h : Fin 8) (a b : Fin 128) (n : Fin 512) :
    share (iblk m c 7 t) (iblk m c 5 t) (iblk m c 6 t) (iblk m c 4 t) h a b n
      = (if arg5 m c (ix3 h a ⟨512 * (t.val / 8) + n.val, by have := (idx t).2.2.2.2.2.2.2.2.2.2; omega⟩)
            ≤ arg7 m c (ix3 h b ⟨512 * (t.val / 8) + n.val, by have := (idx t).2.2.2.2.2.2.2.2.2.2; omega⟩)
        then arg4 m c (ix3 h a ⟨512 * (t.val / 8) + n.val, by have := (idx t).2.2.2.2.2.2.2.2.2.2; omega⟩)
          * arg6 m c (ix3 h b ⟨512 * (t.val / 8) + n.val, by have := (idx t).2.2.2.2.2.2.2.2.2.2; omega⟩) else 0 : EReal) := by
  unfold share
  rw [rd5, rd7]
  split
  · rw [rd4, rd6]
    exact mul_comm _ _
  · rfl

set_option maxHeartbeats 1000000 in
/-- What the body writes for a row of its block is the whole arrays' gated activation of that expert. -/
theorem act_blk (c : Dev nD) (t : Fin cfg0.N) (e : Fin 2048) (n : Fin 512) :
    act (iblk m c 7 t) (iblk m c 5 t) (iblk m c 6 t) (iblk m c 4 t) (iblk m c 2 t) (iblk m c 0 t) (grid0.coords t 1)
        ⟨e.val / 128, by omega⟩ ⟨e.val % 128, by omega⟩ n
      = ACT (arg0 m c) (arg2 m c) (arg4 m c) (arg5 m c) (arg6 m c) (arg7 m c)
        ⟨512 * (t.val / 8) + n.val, by have := (idx t).2.2.2.2.2.2.2.2.2.2; omega⟩ ⟨2048 * (t.val % 8) + e.val, by omega⟩ := by
  have hq : (grid0.coords t 1).val = t.val % 8 := (idx t).2.2.2.2.2.2.2.2.2.1
  have ha : (⟨16 * (grid0.coords t 1).val + e.val / 128, by rw [hq]; omega⟩ : Fin 128)
      = ⟨(2048 * (t.val % 8) + e.val) / 128, by omega⟩ := Fin.ext (by simp only [hq]; omega)
  have hb : (⟨e.val % 128, by omega⟩ : Fin 128) = ⟨(2048 * (t.val % 8) + e.val) % 128, by omega⟩ := Fin.ext (by simp only; omega)
  have he : (⟨128 * (e.val / 128) + e.val % 128, by omega⟩ : Fin 2048) = e := Fin.ext (by simp only; omega)
  unfold act ACT gate
  rw [Fin.sum_univ_eight]
  simp only [share_blk, ha, he]
  rw [hb]
  refine congrArg₂ (· * ·) ?_ (congrArg gelu ?_)
  · rfl
  · exact Finset.sum_congr rfl fun k _ => by rw [rd0, rd2, mul_comm]

theorem hzero (j : S1024x512.Idx) : k0_pay2 (F := Ideal) j = 0 := by pointwise [k0_pay2]
theorem hpay (acc : FVec Ideal S1024x512 .f32) (V : FVec Ideal S1024x2048 .bf16) (G : FVec Ideal S2048x512 .bf16) (j : S1024x512.Idx) :
    k0_pay516 (F := Ideal) acc V G j = acc j + ∑ e : Fin 2048, V (ix2 (j 0) e) * G (ix2 e (j 1)) := by pointwise [k0_pay516]
theorem hout (x : FVec Ideal S512x1024 .f32) (acc : FVec Ideal S1024x512 .f32) (y : S512x1024.Idx) :
    k0_pay1 (F := Ideal) x acc y = x y + acc (ix2 (y 1) (y 0)) := by pointwise [k0_pay1]

/-- One product the body contracts, at a point of the grid, over the whole arrays. -/
theorem term_at (c : Dev nD) (p : Fin cfg0.N) (g : FVec Ideal S2048x512 .bf16)
    (hg : ∀ (i : S2048x512.Idx), g i
      = act (iblk m c 7 p) (iblk m c 5 p) (iblk m c 6 p) (iblk m c 4 p) (iblk m c 2 p) (iblk m c 0 p) (grid0.coords p 1)
        ⟨(i 0 : ℕ) / 128, by have := (i 0).isLt; change _ < 2048 at this; omega⟩ ⟨(i 0 : ℕ) % 128, by omega⟩ (i 1))
    (d : Fin 1024) (e : Fin 2048) (n : Fin 512) (N x : Fin 16384)
    (hN : N.val = 512 * (p.val / 8) + n.val) (hx : x.val = 2048 * (p.val % 8) + e.val) :
    (show FVec Ideal S1024x2048 .bf16 from iblk m c 3 p) (ix2 d e) * g (ix2 e n)
      = ACT (arg0 m c) (arg2 m c) (arg4 m c) (arg5 m c) (arg6 m c) (arg7 m c) N x * arg3 m c (ix2 x d) := by
  obtain ⟨N, hN'⟩ := N
  obtain ⟨x, hx'⟩ := x
  simp only at hN hx
  subst hN hx
  rw [hg]
  exact (congrArg₂ (fun a b : EReal => a * b) (rd3 m c p d e) (act_blk m c p e n)).trans (mul_comm _ _)

set_option maxHeartbeats 1000000 in
/-- The accumulator at the last point of a run: the products of the run's eight groups of experts. -/
theorem acc_at (c : Dev nD) (G : Fin cfg0.N → Vec Ideal S2048x512 .bf16)
    (hA : ∀ t : Fin cfg0.N, ∀ (h0 : t.val % 8 = 0) (h1 : ¬t.val % 8 = 7),
      (outsAt0 m c t.val t.isLt).2 = k0_pay516 (F := Ideal) (k0_pay2 (F := Ideal)) (iblk m c 3 t) (G t))
    (hB : ∀ t : Fin cfg0.N, ∀ (h0 : ¬t.val % 8 = 0) (h1 : ¬t.val % 8 = 7),
      (outsAt0 m c t.val t.isLt).2 = k0_pay516 (F := Ideal) (outsAt0 m c (t.val - 1) (by omega)).2 (iblk m c 3 t) (G t))
    (hC : ∀ t : Fin cfg0.N, ∀ (h0 : ¬t.val % 8 = 0) (h1 : t.val % 8 = 7),
      (outsAt0 m c t.val t.isLt).2 = k0_pay516 (F := Ideal) (outsAt0 m c (t.val - 1) (by omega)).2 (iblk m c 3 t) (G t))
    (hG : ∀ (t : Fin cfg0.N) (i : S2048x512.Idx), G t i
      = act (iblk m c 7 t) (iblk m c 5 t) (iblk m c 6 t) (iblk m c 4 t) (iblk m c 2 t) (iblk m c 0 t) (grid0.coords t 1)
        ⟨(i 0 : ℕ) / 128, by have := (i 0).isLt; change _ < 2048 at this; omega⟩ ⟨(i 0 : ℕ) % 128, by omega⟩ (i 1))
    (t : Fin cfg0.N) (h7 : t.val % 8 = 7) (d : Fin 1024) (n : Fin 512) :
    (outsAt0 m c t.val t.isLt).2 (ix2 d n) = ∑ e : Fin 16384,
      ACT (arg0 m c) (arg2 m c) (arg4 m c) (arg5 m c) (arg6 m c) (arg7 m c)
        ⟨512 * (t.val / 8) + n.val, by have := (idx t).2.2.2.2.2.2.2.2.2.2; omega⟩ e * arg3 m c (ix2 e d) := by
  rw [Pipeline.eq_sum_fin_of_reset_step_apply_of_flush (fun n h => (outsAt0 m c n h).2) 8 (fun _ => (0 : EReal))
    (fun t j => ∑ e : Fin 2048, (show FVec Ideal S1024x2048 .bf16 from iblk m c 3 t) (ix2 (j 0) e) * (G t) (ix2 e (j 1)))
    (fun t h j => by rw [hA t h (by omega), hpay, hzero])
    (fun t h j => by
      by_cases h1 : t.val % 8 = 7
      · rw [hC t h h1, hpay]
      · rw [hB t h h1, hpay])
    t h7 _, zero_add]
  refine Fin.sum_mul_add_congr fun s e hl => ?_
  exact term_at m c ⟨8 * (t.val / 8) + s.val, Pipeline.run_point_lt_of_flush t h7 s⟩ _ (hG _) d e n _ ⟨s.val * 2048 + e.val, hl⟩
    (by simp only; omega) (by simp only; omega)

/-- The reference's result as one term over its eight arguments. -/
abbrev REF (H : FVec Ideal S16384x1024 .bf16) (X U Vt : FVec Ideal S16384x1024 .f32) (C T E K : FVec Ideal S8x128x16384 .f32) :
    FVec Ideal S16384x1024 .f32 :=
  addf X (Host.dotGeneral Cert.ReferenceIdeal.dot_S16384x16384_S16384x1024_S16384x1024_1_0_0_1_n_n none (mulf (transpose Cert.ReferenceIdeal.S16384x16384 [1, 0] (shapeCast _ (Host.reduceAdd (select (cmpf .oge (broadcastInDim Cert.ReferenceIdeal.S8x128x128x16384 ![0, 1, 2, 3] Cert.ReferenceIdeal.Gen.bcast_S8x1x128x16384_S8x128x128x16384_0_1_2_3 (broadcastInDim Cert.ReferenceIdeal.S8x1x128x16384 ![0, 2, 3] Cert.ReferenceIdeal.Gen.bcast_S8x128x16384_S8x1x128x16384_0_2_3 K)) (broadcastInDim Cert.ReferenceIdeal.S8x128x128x16384 ![0, 1, 2, 3] Cert.ReferenceIdeal.Gen.bcast_S8x128x1x16384_S8x128x128x16384_0_1_2_3 (broadcastInDim Cert.ReferenceIdeal.S8x128x1x16384 ![0, 1, 3] Cert.ReferenceIdeal.Gen.bcast_S8x128x16384_S8x128x1x16384_0_1_3 T))) (mulf (broadcastInDim Cert.ReferenceIdeal.S8x128x128x16384 ![0, 1, 2, 3] Cert.ReferenceIdeal.Gen.bcast_S8x128x1x16384_S8x128x128x16384_0_1_2_3 (broadcastInDim Cert.ReferenceIdeal.S8x128x1x16384 ![0, 1, 3] Cert.ReferenceIdeal.Gen.bcast_S8x128x16384_S8x128x1x16384_0_1_3 C)) (broadcastInDim Cert.ReferenceIdeal.S8x128x128x16384 ![0, 1, 2, 3] Cert.ReferenceIdeal.Gen.bcast_S8x1x128x16384_S8x128x128x16384_0_1_2_3 (broadcastInDim Cert.ReferenceIdeal.S8x1x128x16384 ![0, 2, 3] Cert.ReferenceIdeal.Gen.bcast_S8x128x16384_S8x1x128x16384_0_2_3 E))) (broadcastInDim Cert.ReferenceIdeal.S8x128x128x16384 ![] Cert.ReferenceIdeal.Gen.bcast_S_S8x128x128x16384 (id (constant Cert.ReferenceIdeal.S_ .f32 0x00000000#32)))) (constant Cert.ReferenceIdeal.S_ .f32 0x00000000#32) Cert.ReferenceIdeal.Gen.reducesTo_S8x128x128x16384_S128x128x16384_d0 Cert.ReferenceIdeal.Gen.h_S_) Cert.ReferenceIdeal.Gen.shapeCasts_S128x128x16384_S16384x16384) Cert.ReferenceIdeal.Gen.transposes_S16384x16384_S16384x16384_1_0) (mulf (mulf (broadcastInDim Cert.ReferenceIdeal.S16384x16384 ![] Cert.ReferenceIdeal.Gen.bcast_S_S16384x16384 (constant Cert.ReferenceIdeal.S_ .f32 0x3F000000#32)) (Host.dotGeneral Cert.ReferenceIdeal.dot_S16384x1024_S1024x16384_S16384x16384_1_0_0_1_n_n none (extf .f32 H Cert.ReferenceIdeal.Gen.bitsLt_bf16_f32) (transpose Cert.ReferenceIdeal.S1024x16384 [1, 0] U Cert.ReferenceIdeal.Gen.transposes_S16384x1024_S1024x16384_1_0))) (Host.erfc (mulf (Host.negf (Host.dotGeneral Cert.ReferenceIdeal.dot_S16384x1024_S1024x16384_S16384x16384_1_0_0_1_n_n none (extf .f32 H Cert.ReferenceIdeal.Gen.bitsLt_bf16_f32) (transpose Cert.ReferenceIdeal.S1024x16384 [1, 0] U Cert.ReferenceIdeal.Gen.transposes_S16384x1024_S1024x16384_1_0))) (broadcastInDim Cert.ReferenceIdeal.S16384x16384 ![] Cert.ReferenceIdeal.Gen.bcast_S_S16384x16384 (constant Cert.ReferenceIdeal.S_ .f32 0x3F3504F3#32)))))) Vt)

/-- The reference at an index: the residual plus the sum over all experts of the gated activation times the expert's output row. -/
theorem ref_at (H : FVec Ideal S16384x1024 .bf16) (X U Vt : FVec Ideal S16384x1024 .f32) (C T E K : FVec Ideal S8x128x16384 .f32)
    (n : Fin 16384) (d : Fin 1024) : REF H X U Vt C T E K (ix2 n d)
      = X (ix2 n d) + ∑ e : Fin 16384, ACT H U C T E K n e * Vt (ix2 e d) := by
  pointwise [REF]
  refine congrArg (fun z : EReal => X (ix2 n d) + z) (Finset.sum_congr rfl fun e _ => ?_)
  have hz : (id (constant (F := Ideal) Cert.ReferenceIdeal.S_ FTy.f32 0#32) ix0 : EReal) = 0 := by rw [id]; pointwise []
  unfold ACT gelu
  rw [hz, neg_mul, Ideal.erfc_neg]
  rfl

theorem final (c : Dev nD) : (dats m 0 c).arrAt 8 (cfgs 0).N
    = REF (arg0 m c) (arg1 m c) (arg2 m c) (arg3 m c) (arg4 m c) (arg5 m c) (arg6 m c) (arg7 m c) := by
  refine (dats m 0 c).arrAt_eq_of_covers 8 _ (by decide +kernel) fun t hf y => ?_
  have h7 : t.val % 8 = 7 := (flush0_8 t).mp hf
  obtain ⟨G, hA, hB, hC, hO, hG⟩ := parts m c
  blk_simp
  rw [after0_8, hO t (by omega) h7, hout]
  have e0 : (((cfg0.win 8).blk t).view.emb y) = ix2 ⟨512 * (t.val / 8) + (y 0).val, by have := (idx t).2.2.2.2.2.2.2.2.2.2; have := (y 0).isLt; change _ < 512 at this; omega⟩ (y 1) := by
    blk_ext [idx t]
  refine Eq.trans ?_ ((congrArg _ e0).trans (ref_at _ _ _ _ _ _ _ _ _ _)).symm
  refine congrArg₂ (fun a b : EReal => a + b) ?_ (acc_at m c G hA hB hC hG t h7 (y 1) (y 0))
  blk_ext [iblk, V, idx t]
-- ==== Proof.InProj.lean ====
module

public import proofs.«01_k».proof.Proof.Gen.Kernel2Ideal.Value
public import proofs.«01_k».proof.Proof.Gen.Reference2Ideal.Run
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.InProj

/-- The column of the projection's weight that the laid out column `J` holds; 5144 where it holds zeros. -/
def col (J : ℕ) : ℕ :=
  if J < 1792 then J
  else if J < 2304 then (if (J - 1792) % 128 < 64 then 1792 + (J - 1792) / 128 * 64 + (J - 1792) % 128 else 5144)
  else if J < 2816 then (if (J - 1792) % 128 < 64 then 5144 else 1792 + (J - 1792) / 128 * 64 + ((J - 1792) % 128 - 64))
  else if J < 3584 then J - 512
  else if J < 3712 then (if J < 3608 then J - 512 else 5144)
  else J - 616

/-- `f` at the column that `J` holds, zero where it holds zeros. -/
def lay (f : Fin 5144 → EReal) (J : ℕ) : EReal := if h : col J < 5144 then f ⟨col J, h⟩ else 0

/-- A row normalised to mean square one, times the gain. -/
def nrm (x g : Fin 1024 → EReal) (k : Fin 1024) : EReal :=
  x k * Ideal.rsqrt (Ideal.div (∑ i : Fin 1024, x i * x i) (Ideal.ofBits .f32 0x44800000#32) + Ideal.ofBits .f32 0x358637BD#32) * g k

theorem lay_of (f : Fin 5144 → EReal) (J a : ℕ) (ha : a < 5144) (h : col J = a) : lay f J = f ⟨a, ha⟩ := by
  subst h
  exact dif_pos ha
theorem lay_zero (f : Fin 5144 → EReal) (J : ℕ) (h : col J = 5144) : lay f J = 0 := dif_neg (by omega)

theorem sitofp_zero : (FloatOps.sitofp FTy.f32 0#32 : Ideal .f32) = (0 : EReal) := by
  change (((0#32 : BitVec 32).toInt : ℝ) : EReal) = 0
  simp

/-- A row's products with laid out columns are the laid out products. -/
theorem sum_lay (h : Fin 1024 → EReal) (w : Fin 1024 → Fin 5144 → EReal) (J : ℕ) :
    ∑ k : Fin 1024, h k * lay (w k) J = lay (fun j => ∑ k : Fin 1024, h k * w k j) J := by
  unfold lay
  by_cases hc : col J < 5144
  · simp only [dif_pos hc]
  · simp only [dif_neg hc, mul_zero, Finset.sum_const_zero]

end Cert.InProj

namespace Cert.Reference2Ideal.InProj
open Cert.Reference2Ideal Cert.Reference2Ideal.Gen Cert.InProj

/-- The reference's normalised rows, its projection, and its three results from the projection, each as its term. -/
def REFH (X : FVec Ideal S4x4096x1024 .f32) (G : FVec Ideal S1x1024 .f32) : FVec Ideal S16384x1024 .f32 :=
  (mulf (mulf (shapeCast _ X shapeCasts_S4x4096x1024_S16384x1024) (broadcastInDim S16384x1024 ![0, 1] bcast_S16384x1_S16384x1024_0_1 (Host.rsqrt (addf (Host.divf (broadcastInDim S16384x1 ![0] bcast_S16384_S16384x1_0 (Host.reduceAdd (mulf (shapeCast _ X shapeCasts_S4x4096x1024_S16384x1024) (shapeCast _ X shapeCasts_S4x4096x1024_S16384x1024)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ G shapeCasts_S1x1024_S1024))))
def REFP (X : FVec Ideal S4x4096x1024 .f32) (G : FVec Ideal S1x1024 .f32) (W : FVec Ideal S1x1024x5144 .f32) : FVec Ideal S16384x5144 .f32 :=
  Host.dotGeneral dot_S16384x1024_S1024x5144_S16384x5144_1_0_0_1_n_n none (REFH X G) (shapeCast _ W shapeCasts_S1x1024x5144_S1024x5144)
def REF0 (P : FVec Ideal S16384x5144 .f32) : FVec Ideal S16384x1792 .f32 :=
  extractStridedSlice S16384x1792 ![0, 0] P slices_S16384x5144_S16384x1792_0_0
def REF1 (P : FVec Ideal S16384x5144 .f32) : FVec Ideal S16384x1920 .bf16 :=
  truncf .bf16 ((concatenate S16384x1920 1 [⟨S16384x512, ((shapeCast _ (pad S16384x4x128 ![0, 0, 0] ![0, 0, 64] ![0, 0, 0] (shapeCast _ (extractStridedSlice S16384x1x4x64 ![0, 0, 0, 0] (shapeCast _ (extractStridedSlice S16384x512 ![0, 1792] P slices_S16384x5144_S16384x512_0_1792) shapeCasts_S16384x512_S16384x2x4x64) slices_S16384x2x4x64_S16384x1x4x64_0_0_0_0) shapeCasts_S16384x1x4x64_S16384x4x64) (sitofp (F := Ideal) .f32 (constantI S_ 32 0#32)) pads_S16384x4x64_S16384x4x128_000_000_0640 h_S_) shapeCasts_S16384x4x128_S16384x512) : (⟨S16384x512, .f32⟩ : BufTy).Contents (Elt Ideal))⟩, ⟨S16384x512, ((shapeCast _ (pad S16384x4x128 ![0, 0, 64] ![0, 0, 0] ![0, 0, 0] (shapeCast _ (extractStridedSlice S16384x1x4x64 ![0, 1, 0, 0] (shapeCast _ (extractStridedSlice S16384x512 ![0, 1792] P slices_S16384x5144_S16384x512_0_1792) shapeCasts_S16384x512_S16384x2x4x64) slices_S16384x2x4x64_S16384x1x4x64_0_1_0_0) shapeCasts_S16384x1x4x64_S16384x4x64) (sitofp (F := Ideal) .f32 (constantI S_ 32 0#32)) pads_S16384x4x64_S16384x4x128_000_000_6400 h_S_) shapeCasts_S16384x4x128_S16384x512) : (⟨S16384x512, .f32⟩ : BufTy).Contents (Elt Ideal))⟩, ⟨S16384x768, ((extractStridedSlice S16384x768 ![0, 2304] P slices_S16384x5144_S16384x768_0_2304) : (⟨S16384x768, .f32⟩ : BufTy).Contents (Elt Ideal))⟩, ⟨S16384x128, ((pad S16384x128 ![0, 0] ![0, 104] ![0, 0] (extractStridedSlice S16384x24 ![0, 3072] P slices_S16384x5144_S16384x24_0_3072) (sitofp (F := Ideal) .f32 (constantI S_ 32 0#32)) pads_S16384x24_S16384x128_000_01040 h_S_) : (⟨S16384x128, .f32⟩ : BufTy).Contents (Elt Ideal))⟩] concatenates_S16384x512_S16384x512_S16384x768_S16384x128_S16384x1920_d1 : (⟨S16384x1920, .f32⟩ : BufTy).Contents (Elt Ideal))) bitsLt_bf16_f32
def REF2 (P : FVec Ideal S16384x5144 .f32) : FVec Ideal S16384x2048 .bf16 :=
  truncf .bf16 (extractStridedSlice S16384x2048 ![0, 3096] P slices_S16384x5144_S16384x2048_0_3096) bitsLt_bf16_f32

theorem REFH_at (X : FVec Ideal S4x4096x1024 .f32) (G : FVec Ideal S1x1024 .f32) (n : Fin 16384) (k : Fin 1024) :
    REFH X G (ix2 n k) = nrm (fun k => X (ix3 ⟨n.val / 4096, by omega⟩ ⟨n.val % 4096, by omega⟩ k)) (fun k => G (ix2 0 k)) k := by
  pointwise [REFH, nrm]

theorem REFP_at (X : FVec Ideal S4x4096x1024 .f32) (G : FVec Ideal S1x1024 .f32) (W : FVec Ideal S1x1024x5144 .f32) (n : Fin 16384) (j : Fin 5144) :
    REFP X G W (ix2 n j)
      = ∑ k : Fin 1024, nrm (fun k => X (ix3 ⟨n.val / 4096, by omega⟩ ⟨n.val % 4096, by omega⟩ k)) (fun k => G (ix2 0 k)) k * W (ix3 0 k j) := by
  refine Eq.trans ?_ (Finset.sum_congr rfl fun k _ => congrArg (fun a : EReal => a * W (ix3 0 k j)) (REFH_at X G n k))
  pointwise [REFP]

theorem REF0_at (P : FVec Ideal S16384x5144 .f32) (n : Fin 16384) (j : Fin 1792) : REF0 P (ix2 n j) = P (ix2 n ⟨j.val, by omega⟩) := by
  pointwise [REF0]

theorem REF2_at (P : FVec Ideal S16384x5144 .f32) (n : Fin 16384) (j : Fin 2048) : REF2 P (ix2 n j) = P (ix2 n ⟨3096 + j.val, by omega⟩) := by
  pointwise [REF2]

theorem REF1_at (P : FVec Ideal S16384x5144 .f32) (n : Fin 16384) (j : Fin 1920) : REF1 P (ix2 n j) = lay (fun a => P (ix2 n a)) (1792 + j.val) := by
  have hJ := j.isLt
  pointwise [REF1]

  repeat' split
  all_goals
    first
      | (refine Eq.symm (lay_of (fun a => P (ix2 n a)) (1792 + j.val) _ _ ?_); unfold col; split_ifs <;> omega)
      | (refine sitofp_zero.trans (Eq.symm (lay_zero _ (1792 + j.val) ?_)); unfold col; split_ifs <;> omega)

end Cert.Reference2Ideal.InProj

namespace Cert.Kernel2Ideal.InProj
open Cert.Kernel2Ideal Cert.Kernel2Ideal.Gen
open Cert.InProj
variable (m : (ℓ : Loc nD τ sig) → Buf (Elt Ideal) ℓ)

/-- The input, the norm's gain and the projection's weight as launched. -/
abbrev arg0 (c : Dev nD) : FVec Ideal S4x4096x1024 .f32 := m ((c : Thread nD τ).loc main_arg0)
abbrev arg1 (c : Dev nD) : FVec Ideal S1x1024 .f32 := m ((c : Thread nD τ).loc main_arg1)
abbrev arg2 (c : Dev nD) : FVec Ideal S1x1024x5144 .f32 := m ((c : Thread nD τ).loc main_arg2)

/-- Where each window's block sits at a grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ t.val < 64 :=
  (by decide +kernel : ∀ t : Fin grid0.N, _)

/-- The projection's weight as the kernel lays it out: the attention's query columns spread over slots, zeros between. -/
def WL (w : FVec Ideal S1x1024x5144 .f32) : FVec Ideal S1024x5760 .f32 :=
  let v2 : FVec Ideal S1024x5144 .f32 := shapeCast _ w shapeCasts_S1x1024x5144_S1024x5144
  let v4 : FVec Ideal S1024x2x4x64 .f32 := shapeCast _ (extractStridedSlice S1024x512 ![0, 1792] v2 slices_S1024x5144_S1024x512_0_1792) shapeCasts_S1024x512_S1024x2x4x64
  let v6 : FVec Ideal S1024x4x64 .f32 := shapeCast _ (extractStridedSlice S1024x1x4x64 ![0, 0, 0, 0] v4 slices_S1024x2x4x64_S1024x1x4x64_0_0_0_0) shapeCasts_S1024x1x4x64_S1024x4x64
  let v9 : FVec Ideal S1024x4x64 .f32 := shapeCast _ (extractStridedSlice S1024x1x4x64 ![0, 1, 0, 0] v4 slices_S1024x2x4x64_S1024x1x4x64_0_1_0_0) shapeCasts_S1024x1x4x64_S1024x4x64
  let z : FVec Ideal S_ .f32 := sitofp .f32 (constantI S_ 32 0#32)
  let v7 : FVec Ideal S1024x4x128 .f32 := pad S1024x4x128 ![0, 0, 0] ![0, 0, 64] ![0, 0, 0] v6 z pads_S1024x4x64_S1024x4x128_000_000_0640 h_S_
  let v10 : FVec Ideal S1024x4x128 .f32 := pad S1024x4x128 ![0, 0, 64] ![0, 0, 0] ![0, 0, 0] v9 z pads_S1024x4x64_S1024x4x128_000_000_6400 h_S_
  let v13 : FVec Ideal S1024x2x4x128 .f32 := concatenate S1024x2x4x128 1 [⟨S1024x1x4x128, broadcastInDim S1024x1x4x128 ![0, 2, 3] bcast_S1024x4x128_S1024x1x4x128_0_2_3 v7⟩, ⟨S1024x1x4x128, broadcastInDim S1024x1x4x128 ![0, 2, 3] bcast_S1024x4x128_S1024x1x4x128_0_2_3 v10⟩] concatenates_S1024x1x4x128_S1024x1x4x128_S1024x2x4x128_d1
  let v14 : FVec Ideal S1024x1024 .f32 := shapeCast _ v13 shapeCasts_S1024x2x4x128_S1024x1024
  let v16 : FVec Ideal S1024x128 .f32 := pad S1024x128 ![0, 0] ![0, 104] ![0, 0] (extractStridedSlice S1024x24 ![0, 3072] v2 slices_S1024x5144_S1024x24_0_3072) z pads_S1024x24_S1024x128_000_01040 h_S_
  let v17 : FVec Ideal S1024x1792 .f32 := extractStridedSlice S1024x1792 ![0, 0] v2 slices_S1024x5144_S1024x1792_0_0
  let v18 : FVec Ideal S1024x768 .f32 := extractStridedSlice S1024x768 ![0, 2304] v2 slices_S1024x5144_S1024x768_0_2304
  let v19 : FVec Ideal S1024x2048 .f32 := extractStridedSlice S1024x2048 ![0, 3096] v2 slices_S1024x5144_S1024x2048_0_3096
  concatenate S1024x5760 1 [⟨S1024x1792, v17⟩, ⟨S1024x1024, v14⟩, ⟨S1024x768, v18⟩, ⟨S1024x128, v16⟩, ⟨S1024x2048, v19⟩] concatenates_S1024x1792_S1024x1024_S1024x768_S1024x128_S1024x2048_S1024x5760_d1

theorem V0 (c : Dev nD) : V m c main_v0 = shapeCast S16384x1024 (arg0 m c) shapeCasts_S4x4096x1024_S16384x1024 := by
  simp only [V, hostOps0, hostOps0_1, hostOps0_2, hostOps0_3, hostOps0_4, hostOps0_5, hostOps0_6, List.flatten_cons, List.flatten_nil, List.append_nil, List.cons_append,
      List.nil_append]
  after_results_simp <;> rfl

theorem V22 (c : Dev nD) : V m c main_v22 = shapeCast S1x1024 (shapeCast S1024 (arg1 m c) shapeCasts_S1x1024_S1024) shapeCasts_S1024_S1x1024 := by
  simp only [V, hostOps0, hostOps0_1, hostOps0_2, hostOps0_3, hostOps0_4, hostOps0_5, hostOps0_6, List.flatten_cons, List.flatten_nil, List.append_nil, List.cons_append,
      List.nil_append]
  after_results_simp <;> rfl

theorem V21 (c : Dev nD) : V m c main_v21 = WL (arg2 m c) := by
  simp only [V, hostOps0, hostOps0_1, hostOps0_2, hostOps0_3, hostOps0_4, hostOps0_5, hostOps0_6, List.flatten_cons, List.flatten_nil, List.append_nil, List.cons_append,
      List.nil_append, StableHlo.TRef.binary, StableHlo.TRef.unary, StableHlo.TRef.toBuf, StableHlo.TRef.ofBuf, cast_eq]
  after_results_simp <;> (try dsimp only [Matrix.cons_val]) <;> (try after_results_simp) <;> rfl

theorem WL_at (w : FVec Ideal S1x1024x5144 .f32) (k : Fin 1024) (J : Fin 5760) : WL w (ix2 k J) = lay (fun j => w (ix3 0 k j)) J.val := by
  have hJ := J.isLt
  pointwise [WL]
  repeat' split
  all_goals
    first
      | (refine Eq.symm (lay_of (fun j => w (ix3 0 k j)) J.val _ _ ?_); unfold col; split_ifs <;> omega)
      | (refine sitofp_zero.trans (Eq.symm (lay_zero _ J.val ?_)); unfold col; split_ifs <;> omega)

section blocks
variable (c : Dev nD) (t : Fin cfg0.N)

theorem rd0 (n : Fin 256) (k : Fin 1024) : iblk m c 0 t (ix2 n k)
    = arg0 m c (ix3 ⟨(256 * t.val + n.val) / 4096, by have := (idx t).2.2.2.2.2.2; omega⟩ ⟨(256 * t.val + n.val) % 4096, by omega⟩ k) := by
  blk_simp [iblk, idx t]
  rw [V0]
  pointwise []
  blk_ext [idx t]

theorem rd1 (k : Fin 1024) : iblk m c 1 t (ix2 0 k) = arg1 m c (ix2 0 k) := by
  blk_simp [iblk, idx t]
  rw [V22]
  pointwise []
  blk_ext [idx t]

theorem rd2 (k : Fin 1024) (J : Fin 5760) : iblk m c 2 t (ix2 k J) = lay (fun j => arg2 m c (ix3 0 k j)) J.val := by
  refine Eq.trans ?_ (WL_at (arg2 m c) k J)
  rw [← V21]
  blk_ext [iblk, idx t]

end blocks

theorem pay1_at (x : FVec Ideal S256x1024 .f32) (g : FVec Ideal S1x1024 .f32) (n : Fin 256) (k : Fin 1024) :
    k0_pay1 (F := Ideal) x g (ix2 n k) = nrm (fun k => x (ix2 n k)) (fun k => g (ix2 0 k)) k := by
  pointwise [k0_pay1, nrm]

theorem pay2_at (x : FVec Ideal S256x1024 .f32) (g : FVec Ideal S1x1024 .f32) (w : FVec Ideal S1024x1792 .bf16) (n : Fin 256) (j : Fin 1792) :
    k0_pay2 (F := Ideal) x g w (ix2 n j) = ∑ k : Fin 1024, nrm (fun k => x (ix2 n k)) (fun k => g (ix2 0 k)) k * w (ix2 k j) := by
  refine Eq.trans ?_ (Finset.sum_congr rfl fun k _ => congrArg (fun a : EReal => a * w (ix2 k j)) (pay1_at x g n k))
  pointwise [k0_pay2]

theorem pay3_at (x : FVec Ideal S256x1024 .f32) (g : FVec Ideal S1x1024 .f32) (w : FVec Ideal S1024x1920 .bf16) (n : Fin 256) (j : Fin 1920) :
    k0_pay3 (F := Ideal) x g w (ix2 n j) = ∑ k : Fin 1024, nrm (fun k => x (ix2 n k)) (fun k => g (ix2 0 k)) k * w (ix2 k j) := by
  refine Eq.trans ?_ (Finset.sum_congr rfl fun k _ => congrArg (fun a : EReal => a * w (ix2 k j)) (pay1_at x g n k))
  pointwise [k0_pay3]

theorem pay4_at (x : FVec Ideal S256x1024 .f32) (g : FVec Ideal S1x1024 .f32) (w : FVec Ideal S1024x2048 .bf16) (n : Fin 256) (j : Fin 2048) :
    k0_pay4 (F := Ideal) x g w (ix2 n j) = ∑ k : Fin 1024, nrm (fun k => x (ix2 n k)) (fun k => g (ix2 0 k)) k * w (ix2 k j) := by
  refine Eq.trans ?_ (Finset.sum_congr rfl fun k _ => congrArg (fun a : EReal => a * w (ix2 k j)) (pay1_at x g n k))
  pointwise [k0_pay4]

/-- The projection of the whole input, over the kernel's arguments. -/
abbrev PR (c : Dev nD) : FVec Ideal Cert.Reference2Ideal.S16384x5144 .f32 := Cert.Reference2Ideal.InProj.REFP (arg0 m c) (arg1 m c) (arg2 m c)

/-- A block's row against a laid out column of the weight is the whole projection's laid out row. -/
theorem row_at (c : Dev nD) (t : Fin cfg0.N) (n : Fin 256) (f : Fin 1024 → EReal) (J : ℕ) (N : Fin 16384) (hN : N.val = 256 * t.val + n.val)
    (hf : ∀ k, f k = lay (fun j => arg2 m c (ix3 0 k j)) J) :
    ∑ k : Fin 1024, nrm (fun k => (show FVec Ideal S256x1024 .f32 from iblk m c 0 t) (ix2 n k))
        (fun k => (show FVec Ideal S1x1024 .f32 from iblk m c 1 t) (ix2 0 k)) k * f k
      = lay (fun a => PR m c (ix2 N a)) J := by
  have e0 : (fun k => (show FVec Ideal S256x1024 .f32 from iblk m c 0 t) (ix2 n k))
      = fun k => arg0 m c (ix3 ⟨N.val / 4096, by omega⟩ ⟨N.val % 4096, by omega⟩ k) := by
    funext k
    refine (rd0 m c t n k).trans ?_
    simp only [hN]
  have e1 : (fun k => (show FVec Ideal S1x1024 .f32 from iblk m c 1 t) (ix2 0 k)) = fun k => arg1 m c (ix2 0 k) :=
    funext fun k => rd1 m c t k
  rw [e0, e1]
  simp only [hf]
  rw [sum_lay]
  exact congrArg (fun g => lay g J) (funext fun a => (Cert.Reference2Ideal.InProj.REFP_at (arg0 m c) (arg1 m c) (arg2 m c) N a).symm)

theorem ld3 (X : FVec Ideal S1024x5760 .bf16) (k : Fin 1024) (j : Fin 1792) :
    View.ld (Val := Elt Ideal) (e' := .bf16) X r0_2 (ix2 k j) = X (ix2 k ⟨0 + j.val, by omega⟩) := by
  refine congrArg X ?_
  funext a
  fin_cases a <;> exact Fin.ext (by simp [Rect.unit])

theorem final3 (c : Dev nD) : (dats m 0 c).arrAt 3 cfg0.N = Cert.Reference2Ideal.InProj.REF0 (PR m c) := by
  refine (dats m 0 c).arrAt_eq_of_covers 3 _ (by decide +kernel) fun t _ y => ?_
  blk_simp
  rw [after0_3]
  frame_out
  idx_vars y
  have ht := (idx t).2.2.2.2.2.2
  have e0 : (((cfg0.win 3).blk t).view.emb (ix2 y0 y1)) = ix2 ⟨256 * t.val + y0.val, by omega⟩ y1 := by
    blk_ext [idx t]
  refine (pay2_at _ _ _ y0 y1).trans ?_
  refine (row_at m c t y0 _ (0 + y1.val) ⟨256 * t.val + y0.val, by omega⟩ rfl fun k => (ld3 _ k y1).trans (rd2 m c t k _)).trans ?_
  refine Eq.trans ?_ ((congrArg _ e0).trans (Cert.Reference2Ideal.InProj.REF0_at _ _ _)).symm
  exact (lay_of _ _ y1.val (by omega) (by unfold col; split_ifs <;> omega)).trans rfl

theorem ld4 (X : FVec Ideal S1024x5760 .bf16) (k : Fin 1024) (j : Fin 1920) :
    View.ld (Val := Elt Ideal) (e' := .bf16) X r0_4 (ix2 k j) = X (ix2 k ⟨1792 + j.val, by omega⟩) := by
  refine congrArg X ?_
  funext a
  fin_cases a <;> exact Fin.ext (by simp [Rect.unit])

theorem final4 (c : Dev nD) : (dats m 0 c).arrAt 4 cfg0.N = Cert.Reference2Ideal.InProj.REF1 (PR m c) := by
  refine (dats m 0 c).arrAt_eq_of_covers 4 _ (by decide +kernel) fun t _ y => ?_
  blk_simp
  rw [after0_4]
  frame_out
  idx_vars y
  have ht := (idx t).2.2.2.2.2.2
  have e0 : (((cfg0.win 4).blk t).view.emb (ix2 y0 y1)) = ix2 ⟨256 * t.val + y0.val, by omega⟩ y1 := by
    blk_ext [idx t]
  refine (pay3_at _ _ _ y0 y1).trans ?_
  refine (row_at m c t y0 _ (1792 + y1.val) ⟨256 * t.val + y0.val, by omega⟩ rfl fun k => (ld4 _ k y1).trans (rd2 m c t k _)).trans ?_
  refine Eq.trans ?_ ((congrArg _ e0).trans (Cert.Reference2Ideal.InProj.REF1_at _ _ _)).symm
  rfl

theorem ld5 (X : FVec Ideal S1024x5760 .bf16) (k : Fin 1024) (j : Fin 2048) :
    View.ld (Val := Elt Ideal) (e' := .bf16) X r0_6 (ix2 k j) = X (ix2 k ⟨3712 + j.val, by omega⟩) := by
  refine congrArg X ?_
  funext a
  fin_cases a <;> exact Fin.ext (by simp [Rect.unit])

theorem final5 (c : Dev nD) : (dats m 0 c).arrAt 5 cfg0.N = Cert.Reference2Ideal.InProj.REF2 (PR m c) := by
  refine (dats m 0 c).arrAt_eq_of_covers 5 _ (by decide +kernel) fun t _ y => ?_
  blk_simp
  rw [after0_5]
  frame_out
  idx_vars y
  have ht := (idx t).2.2.2.2.2.2
  have e0 : (((cfg0.win 5).blk t).view.emb (ix2 y0 y1)) = ix2 ⟨256 * t.val + y0.val, by omega⟩ y1 := by
    blk_ext [idx t]
  refine (pay4_at _ _ _ y0 y1).trans ?_
  refine (row_at m c t y0 _ (3712 + y1.val) ⟨256 * t.val + y0.val, by omega⟩ rfl fun k => (ld5 _ k y1).trans (rd2 m c t k _)).trans ?_
  refine Eq.trans ?_ ((congrArg _ e0).trans (Cert.Reference2Ideal.InProj.REF2_at _ _ _)).symm
  exact (lay_of _ _ (3096 + y1.val) (by omega) (by unfold col; split_ifs <;> omega)).trans rfl

end Cert.Kernel2Ideal.InProj
end
end
-- ==== Proof.InProjTie.lean ====
module

public import proofs.«01_k».proof.Defs
public import proofs.«01_k».proof.Proof.InProj
public import Idealize.ShloMosaic.Adequacy
public import Idealize.ShloMosaic.Init
public import Idealize.ShloMosaic.Lib.Quiescent

@[expose] public section

noncomputable section

namespace Cert.Proof

open Idealize.ShloMosaic Idealize.SL.Sem

/-- The reference of the input projection ends without fault, its arguments and counters as they must be. -/
theorem quiescent_Reference2Ideal : Cert.quiescent_Reference2Ideal := fun m ρ _ =>
  (θ_run Cert.Reference2Ideal.defs _ _).mono
    (fun r h => ⟨fun c => (h c).2.2.2, sem_eq_zero_of_no_sems (by decide) r.2⟩)
    (Cert.Reference2Ideal.Value.run (F := Ideal) m ρ)

open Cert.Reference2Ideal in
/-- The reference's second result is the padded concatenation of the slices of its projection. -/
theorem proj_second (m : (ℓ : Loc nD τ sig) → Buf (Elt Ideal) ℓ) (c : Dev nD) :
    Cert.Reference2Ideal.Value.res_main_v33 m c
      = InProj.REF1 (InProj.REFP (m ((c.tc : Thread nD τ).loc main_arg0)) (m ((c.tc : Thread nD τ).loc main_arg1))
          (m ((c.tc : Thread nD τ).loc main_arg2))) := by
  unfold Cert.Reference2Ideal.Value.res_main_v33 InProj.REF1 InProj.REFP InProj.REFH
  rfl

/-- The input projection: the kernel's three results are the reference's. -/
theorem algebraic_Kernel2Ideal_Reference2Ideal : Cert.algebraic_Kernel2Ideal_Reference2Ideal := by
  intro m ρ m' ρ' _ hagree
  refine ⟨_, _, _, Cert.Kernel2Ideal.Value.run_blocks (F := Ideal) m ρ, ?_⟩
  refine (θ_run Cert.Reference2Ideal.defs _ _).mono (fun _ h c => ⟨?_, ?_, ?_, (h c).2.2.2⟩)
    (Cert.Reference2Ideal.Value.run (F := Ideal) m' ρ')
  · rw [(h c).1]
    simp only [hagree c]
    exact (Cert.Kernel2Ideal.InProj.final3 m c).symm
  · refine ((h c).2.1.trans (proj_second m' c)).trans ?_
    simp only [hagree c]
    exact (Cert.Kernel2Ideal.InProj.final4 m c).symm
  · rw [(h c).2.2.1]
    simp only [hagree c]
    exact (Cert.Kernel2Ideal.InProj.final5 m c).symm

end Cert.Proof

end
-- ==== Proof.MergeStages.lean ====
module

public import proofs.«01_k».proof.Proof.Gen.Kernel3Ideal.Value
public import proofs.«01_k».proof.Proof.Gen.Reference3Ideal.Run
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.Merge

/-- The logistic function as a quotient. -/
def lg (x : EReal) : EReal := Ideal.div 1 (1 + Ideal.exp (-x))

/-- A row of the two branches' gated merge, before the output projection. -/
def mixrow (a : Fin 512 → EReal) (p : Fin 1024 → EReal) (g : Fin 2048 → EReal) (wa : Fin 512 → Fin 1024 → EReal) (d : Fin 1024) : EReal :=
  lg (g ⟨d.val, by omega⟩) * (∑ k : Fin 512, a k * wa k d) + lg (g ⟨1024 + d.val, by omega⟩) * p d

/-- A row after the output projection and the residual. -/
def x2row (x : Fin 1024 → EReal) (mx : Fin 1024 → EReal) (wo : Fin 1024 → Fin 1024 → EReal) (d : Fin 1024) : EReal :=
  x d + ∑ e : Fin 1024, mx e * wo e d

/-- A row normalised to mean square one, times the gain. -/
def nrm (x g : Fin 1024 → EReal) (k : Fin 1024) : EReal :=
  x k * Ideal.rsqrt (Ideal.div (∑ i : Fin 1024, x i * x i) (Ideal.ofBits .f32 0x44800000#32) + Ideal.ofBits .f32 0x358637BD#32) * g k

/-- The second branch's slots against a weight with zero rows between are the branch's own columns against the weight. -/
theorem sum_slots (b : Fin 1024 → EReal) (w : Fin 512 → EReal) :
    ∑ k : Fin 1024, b k * (if h : k.val % 128 < 64 then w ⟨k.val / 128 * 64 + k.val % 128, by omega⟩ else 0)
      = ∑ k : Fin 512, b ⟨k.val / 64 * 128 + k.val % 64, by omega⟩ * w k := by
  refine (Finset.sum_subset (Finset.subset_univ (Finset.univ.filter fun k : Fin 1024 => k.val % 128 < 64)) fun k _ hk => ?_).symm.trans ?_
  · rw [dif_neg (by simpa using hk), mul_zero]
  · refine Finset.sum_bij' (fun k _ => (⟨k.val / 128 * 64 + k.val % 128 % 64, by omega⟩ : Fin 512))
      (fun k _ => (⟨k.val / 64 * 128 + k.val % 64, by omega⟩ : Fin 1024)) ?_ ?_ ?_ ?_ ?_
    · intro k _; exact Finset.mem_univ _
    · intro k _; simp only [Finset.mem_filter, Finset.mem_univ, true_and]; omega
    · intro k hk
      have hk' : k.val % 128 < 64 := by simpa using hk
      exact Fin.ext (by simp only; omega)
    · intro k _; exact Fin.ext (by simp only; omega)
    · intro k hk
      have hk' : k.val % 128 < 64 := by simpa using hk
      rw [dif_pos hk']
      exact congrArg₂ (fun a b : EReal => a * b) (congrArg b (Fin.ext (by simp only; omega))) (congrArg w (Fin.ext (by simp only; omega)))

theorem mixrow_congr {a a' : Fin 512 → EReal} {p p' : Fin 1024 → EReal} {g g' : Fin 2048 → EReal} {wa wa' : Fin 512 → Fin 1024 → EReal}
    (h1 : ∀ k, a k = a' k) (h2 : ∀ d, p d = p' d) (h3 : ∀ k, g k = g' k) (h4 : ∀ k d, wa k d = wa' k d) (d : Fin 1024) :
    mixrow a p g wa d = mixrow a' p' g' wa' d := by
  rw [funext h1, funext h2, funext h3, funext fun k => funext (h4 k)]

theorem x2row_congr {x x' mx mx' : Fin 1024 → EReal} {wo wo' : Fin 1024 → Fin 1024 → EReal}
    (h1 : ∀ k, x k = x' k) (h2 : ∀ d, mx d = mx' d) (h3 : ∀ k d, wo k d = wo' k d) (d : Fin 1024) : x2row x mx wo d = x2row x' mx' wo' d := by
  rw [funext h1, funext h2, funext fun k => funext (h3 k)]

theorem nrm_congr {x x' g g' : Fin 1024 → EReal} (h1 : ∀ k, x k = x' k) (h2 : ∀ d, g d = g' d) (d : Fin 1024) : nrm x g d = nrm x' g' d := by
  rw [funext h1, funext h2]

theorem dot_congr {n : ℕ} {a a' b b' : Fin n → EReal} (h1 : ∀ k, a k = a' k) (h2 : ∀ k, b k = b' k) : ∑ k, a k * b k = ∑ k, a' k * b' k := by
  rw [funext h1, funext h2]

end Cert.Merge

namespace Cert.Reference3Ideal.Merge
open Cert.Reference3Ideal Cert.Reference3Ideal.Gen Cert.Merge

/-- The reference's stages, each as its term over the stage before. -/
def MIX (A : FVec Ideal S16384x512 .f32) (B : FVec Ideal S16384x1024 .f32) (M : FVec Ideal S16384x2048 .bf16) (Wa Wb : FVec Ideal S512x1024 .f32) : FVec Ideal S16384x1024 .f32 :=
  addf (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 0] (extf .f32 M bitsLt_bf16_f32) slices_S16384x2048_S16384x1024_0_0))))) (Host.dotGeneral dot_S16384x512_S512x1024_S16384x1024_1_0_0_1_n_n none A Wa)) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 1024] (extf .f32 M bitsLt_bf16_f32) slices_S16384x2048_S16384x1024_0_1024))))) (Host.dotGeneral dot_S16384x512_S512x1024_S16384x1024_1_0_0_1_n_n none (shapeCast _ (extractStridedSlice S16384x8x64 ![0, 0, 0] (shapeCast _ B shapeCasts_S16384x1024_S16384x8x128) slices_S16384x8x128_S16384x8x64_0_0_0) shapeCasts_S16384x8x64_S16384x512) Wb))
def RX2 (X MX : FVec Ideal S16384x1024 .f32) (Wo : FVec Ideal S1024x1024 .f32) : FVec Ideal S16384x1024 .f32 :=
  addf X (Host.dotGeneral dot_S16384x1024_S1024x1024_S16384x1024_1_0_0_1_n_n none MX Wo)
def RH (X2 : FVec Ideal S16384x1024 .f32) (G : FVec Ideal S1024 .f32) : FVec Ideal S16384x1024 .f32 :=
  mulf (mulf X2 (broadcastInDim S16384x1024 ![0, 1] bcast_S16384x1_S16384x1024_0_1 (Host.rsqrt (addf (Host.divf (broadcastInDim S16384x1 ![0] bcast_S16384_S16384x1_0 (Host.reduceAdd (mulf X2 X2) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 G))
def RHb (H : FVec Ideal S16384x1024 .f32) : FVec Ideal S16384x1024 .bf16 :=
  truncf .bf16 H bitsLt_bf16_f32
def RQ (H : FVec Ideal S16384x1024 .f32) (Wq : FVec Ideal S1024x2048 .f32) : FVec Ideal S16384x2048 .f32 :=
  Host.dotGeneral dot_S16384x1024_S1024x2048_S16384x2048_1_0_0_1_n_n none H Wq
def RS1 (Q : FVec Ideal S16384x2048 .f32) (K1 : FVec Ideal S128x128 .f32) : FVec Ideal S8x128x16384 .f32 :=
  transpose S8x128x16384 [1, 2, 0] (Host.dotGeneral dot_S16384x8x128_S128x128_S16384x8x128_2_1_01_0_n_n none (shapeCast _ (extractStridedSlice S16384x8x1x128 ![0, 0, 0, 0] (shapeCast _ Q shapeCasts_S16384x2048_S16384x8x2x128) slices_S16384x8x2x128_S16384x8x1x128_0_0_0_0) shapeCasts_S16384x8x1x128_S16384x8x128) K1) transposes_S16384x8x128_S8x128x16384_1_2_0
def RS2 (Q : FVec Ideal S16384x2048 .f32) (K2 : FVec Ideal S128x128 .f32) : FVec Ideal S8x128x16384 .f32 :=
  transpose S8x128x16384 [1, 2, 0] (Host.dotGeneral dot_S16384x8x128_S128x128_S16384x8x128_2_1_01_0_n_n none (shapeCast _ (extractStridedSlice S16384x8x1x128 ![0, 0, 1, 0] (shapeCast _ Q shapeCasts_S16384x2048_S16384x8x2x128) slices_S16384x8x2x128_S16384x8x1x128_0_0_1_0) shapeCasts_S16384x8x1x128_S16384x8x128) K2) transposes_S16384x8x128_S8x128x16384_1_2_0

theorem MIX_at (A : FVec Ideal S16384x512 .f32) (B : FVec Ideal S16384x1024 .f32) (M : FVec Ideal S16384x2048 .bf16) (Wa Wb : FVec Ideal S512x1024 .f32)
    (n : Fin 16384) (d : Fin 1024) : MIX A B M Wa Wb (ix2 n d)
      = mixrow (fun k => A (ix2 n k)) (fun d => ∑ k : Fin 512, B (ix2 n ⟨k.val / 64 * 128 + k.val % 64, by omega⟩) * Wb (ix2 k d)) (fun k => M (ix2 n k)) (fun k d => Wa (ix2 k d)) d := by
  pointwise [MIX, mixrow, lg]

theorem RX2_at (X MX : FVec Ideal S16384x1024 .f32) (Wo : FVec Ideal S1024x1024 .f32) (n : Fin 16384) (d : Fin 1024) :
    RX2 X MX Wo (ix2 n d) = x2row (fun d => X (ix2 n d)) (fun d => MX (ix2 n d)) (fun e d => Wo (ix2 e d)) d := by
  pointwise [RX2, x2row]

theorem RH_at (X2 : FVec Ideal S16384x1024 .f32) (G : FVec Ideal S1024 .f32) (n : Fin 16384) (d : Fin 1024) :
    RH X2 G (ix2 n d) = nrm (fun d => X2 (ix2 n d)) (fun d => G (ix1 d)) d := by
  pointwise [RH, nrm]

theorem RHb_at (H : FVec Ideal S16384x1024 .f32) (n : Fin 16384) (d : Fin 1024) : RHb H (ix2 n d) = H (ix2 n d) := by
  pointwise [RHb]

theorem RQ_at (H : FVec Ideal S16384x1024 .f32) (Wq : FVec Ideal S1024x2048 .f32) (n : Fin 16384) (j : Fin 2048) :
    RQ H Wq (ix2 n j) = ∑ d : Fin 1024, H (ix2 n d) * Wq (ix2 d j) := by
  pointwise [RQ]

theorem RS1_at (Q : FVec Ideal S16384x2048 .f32) (K1 : FVec Ideal S128x128 .f32) (h : Fin 8) (k : Fin 128) (n : Fin 16384) :
    RS1 Q K1 (ix3 h k n) = ∑ d : Fin 128, K1 (ix2 k d) * Q (ix2 n ⟨256 * h.val + d.val, by omega⟩) := by
  pointwise [RS1]
  exact Finset.sum_congr rfl fun d _ => (mul_comm _ _).trans
    (congrArg (fun j => K1 (ix2 k d) * Q (ix2 n j)) (Fin.ext (by simp only; omega)))

theorem RS2_at (Q : FVec Ideal S16384x2048 .f32) (K2 : FVec Ideal S128x128 .f32) (h : Fin 8) (k : Fin 128) (n : Fin 16384) :
    RS2 Q K2 (ix3 h k n) = ∑ d : Fin 128, K2 (ix2 k d) * Q (ix2 n ⟨256 * h.val + 128 + d.val, by omega⟩) := by
  pointwise [RS2]
  exact Finset.sum_congr rfl fun d _ => (mul_comm _ _).trans
    (congrArg (fun j => K2 (ix2 k d) * Q (ix2 n j)) (Fin.ext (by simp only; omega)))

end Cert.Reference3Ideal.Merge

namespace Cert.Kernel3Ideal.Merge
open Cert.Kernel3Ideal Cert.Kernel3Ideal.Gen Cert.Merge
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] ∧ win0_13.index t = ![0, 0, t.val] ∧ win0_14.index t = ![0, 0, t.val] ∧ t.val < 64 :=
  (by decide +kernel : ∀ t : Fin grid0.N, _)

/-- The kernel's arguments as launched. -/
abbrev arg0 (c : Dev nD) : FVec Ideal S16384x512 .f32 := m ((c : Thread nD τ).loc main_arg0)
abbrev arg1 (c : Dev nD) : FVec Ideal S16384x1024 .f32 := m ((c : Thread nD τ).loc main_arg1)
abbrev arg2 (c : Dev nD) : FVec Ideal S16384x2048 .bf16 := m ((c : Thread nD τ).loc main_arg2)
abbrev arg3 (c : Dev nD) : FVec Ideal S16384x1024 .f32 := m ((c : Thread nD τ).loc main_arg3)
abbrev arg4 (c : Dev nD) : FVec Ideal S512x1024 .f32 := m ((c : Thread nD τ).loc main_arg4)
abbrev arg5 (c : Dev nD) : FVec Ideal S512x1024 .f32 := m ((c : Thread nD τ).loc main_arg5)
abbrev arg6 (c : Dev nD) : FVec Ideal S1024x1024 .f32 := m ((c : Thread nD τ).loc main_arg6)
abbrev arg7 (c : Dev nD) : FVec Ideal S1024 .f32 := m ((c : Thread nD τ).loc main_arg7)
abbrev arg8 (c : Dev nD) : FVec Ideal S1024x2048 .f32 := m ((c : Thread nD τ).loc main_arg8)
abbrev arg9 (c : Dev nD) : FVec Ideal S128x128 .f32 := m ((c : Thread nD τ).loc main_arg9)
abbrev arg10 (c : Dev nD) : FVec Ideal S128x128 .f32 := m ((c : Thread nD τ).loc main_arg10)

section blocks
variable (c : Dev nD) (t : Fin cfg0.N)

theorem rd0 (n : Fin 256) (k : Fin 512) : iblk m c 0 t (ix2 n k) = arg0 m c (ix2 ⟨256 * t.val + n.val, by have := (idx t).2.2.2.2.2.2.2.2.2.2.2.2.2.2.2; omega⟩ k) := by
  blk_ext [iblk, V, idx t]
theorem rd1 (n : Fin 256) (k : Fin 1024) : iblk m c 1 t (ix2 n k) = arg1 m c (ix2 ⟨256 * t.val + n.val, by have := (idx t).2.2.2.2.2.2.2.2.2.2.2.2.2.2.2; omega⟩ k) := by
  blk_ext [iblk, V, idx t]
theorem rd2 (n : Fin 256) (k : Fin 2048) : iblk m c 2 t (ix2 n k) = arg2 m c (ix2 ⟨256 * t.val + n.val, by have := (idx t).2.2.2.2.2.2.2.2.2.2.2.2.2.2.2; omega⟩ k) := by
  blk_ext [iblk, V, idx t]
theorem rd3 (n : Fin 256) (k : Fin 1024) : iblk m c 3 t (ix2 n k) = arg3 m c (ix2 ⟨256 * t.val + n.val, by have := (idx t).2.2.2.2.2.2.2.2.2.2.2.2.2.2.2; omega⟩ k) := by
  blk_ext [iblk, V, idx t]
theorem rd4 (k : Fin 512) (d : Fin 1024) : iblk m c 4 t (ix2 k d) = arg4 m c (ix2 k d) := by
  blk_simp [iblk, idx t]; entry_read; pointwise []; blk_ext [idx t]
theorem rd5 (k : Fin 1024) (d : Fin 1024) : iblk m c 5 t (ix2 k d)
    = if h : k.val % 128 < 64 then arg5 m c (ix2 ⟨k.val / 128 * 64 + k.val % 128, by omega⟩ d) else 0 := by
  blk_simp [iblk, idx t]
  entry_read
  have e : (((View.whole main_v5).slice (win0_5.rect t)).emb (ix2 k d)) = ix2 k d := by blk_ext [idx t]
  refine (congrArg _ e).trans ?_
  pointwise []
theorem rd6 (k : Fin 1024) (d : Fin 1024) : iblk m c 6 t (ix2 k d) = arg6 m c (ix2 k d) := by
  blk_simp [iblk, idx t]; entry_read; pointwise []; blk_ext [idx t]
theorem rd7 (d : Fin 1024) : iblk m c 7 t (ix2 0 d) = arg7 m c (ix1 d) := by
  blk_simp [iblk, idx t]; entry_read; pointwise []; blk_ext [idx t]
theorem rd8 (k : Fin 1024) (d : Fin 2048) : iblk m c 8 t (ix2 k d) = arg8 m c (ix2 k d) := by
  blk_simp [iblk, idx t]; entry_read; pointwise []; blk_ext [idx t]
theorem rd9 (k : Fin 128) (d : Fin 128) : iblk m c 9 t (ix2 k d) = arg9 m c (ix2 k d) := by
  blk_simp [iblk, idx t]; entry_read; pointwise []; blk_ext [idx t]
theorem rd10 (k : Fin 128) (d : Fin 128) : iblk m c 10 t (ix2 k d) = arg10 m c (ix2 k d) := by
  blk_simp [iblk, idx t]; entry_read; pointwise []; blk_ext [idx t]
end blocks

theorem pay3_at (g : FVec Ideal S256x2048 .bf16) (a : FVec Ideal S256x512 .f32) (wa : FVec Ideal S512x1024 .bf16) (b : FVec Ideal S256x1024 .f32)
    (wb : FVec Ideal S1024x1024 .bf16) (x : FVec Ideal S256x1024 .f32) (wo : FVec Ideal S1024x1024 .bf16) (n : Fin 256) (d : Fin 1024) :
    k0_pay3 (F := Ideal) g a wa b wb x wo (ix2 n d)
      = x2row (fun d => x (ix2 n d)) (mixrow (fun k => a (ix2 n k)) (fun d => ∑ k : Fin 1024, b (ix2 n k) * wb (ix2 k d)) (fun k => g (ix2 n k)) (fun k d => wa (ix2 k d))) (fun e d => wo (ix2 e d)) d := by
  pointwise [k0_pay3, x2row, mixrow, lg]
  simp only [Ideal.logistic]

theorem pay5_at (g : FVec Ideal S256x2048 .bf16) (a : FVec Ideal S256x512 .f32) (wa : FVec Ideal S512x1024 .bf16) (b : FVec Ideal S256x1024 .f32)
    (wb : FVec Ideal S1024x1024 .bf16) (x : FVec Ideal S256x1024 .f32) (wo : FVec Ideal S1024x1024 .bf16) (g2 : FVec Ideal S1x1024 .f32) (n : Fin 256) (d : Fin 1024) :
    k0_pay5 (F := Ideal) (k0_pay4 (F := Ideal) g a wa b wb x wo) g2 (ix2 n d)
      = nrm (fun d => k0_pay3 (F := Ideal) g a wa b wb x wo (ix2 n d)) (fun d => g2 (ix2 0 d)) d := by
  pointwise [k0_pay5, k0_pay4, nrm]

theorem pay6_at (v : FVec Ideal S256x1024 .f32) (g2 : FVec Ideal S1x1024 .f32) (wq : FVec Ideal S1024x2048 .bf16) (n : Fin 256) (j : Fin 2048) :
    k0_pay6 (F := Ideal) v g2 wq (ix2 n j) = ∑ d : Fin 1024, k0_pay5 (F := Ideal) v g2 (ix2 n d) * wq (ix2 d j) := by
  pointwise [k0_pay6]

/-- The reference's stages over the kernel's arguments. -/
abbrev MXa (c : Dev nD) : FVec Ideal S16384x1024 .f32 := Cert.Reference3Ideal.Merge.MIX (arg0 m c) (arg1 m c) (arg2 m c) (arg4 m c) (arg5 m c)
abbrev X2a (c : Dev nD) : FVec Ideal S16384x1024 .f32 := Cert.Reference3Ideal.Merge.RX2 (arg3 m c) (MXa m c) (arg6 m c)
abbrev Ha (c : Dev nD) : FVec Ideal S16384x1024 .f32 := Cert.Reference3Ideal.Merge.RH (X2a m c) (arg7 m c)
abbrev Qa (c : Dev nD) : FVec Ideal Cert.Reference3Ideal.S16384x2048 .f32 := Cert.Reference3Ideal.Merge.RQ (Ha m c) (arg8 m c)

theorem x2_at (c : Dev nD) (t : Fin cfg0.N) (n : Fin 256) (d : Fin 1024) (h : 256 * t.val + n.val < 16384) :
    k0_pay3 (F := Ideal) (iblk m c 2 t) (iblk m c 0 t) (iblk m c 4 t) (iblk m c 1 t) (iblk m c 5 t) (iblk m c 3 t) (iblk m c 6 t) (ix2 n d)
      = X2a m c (ix2 ⟨256 * t.val + n.val, h⟩ d) := by
  refine (pay3_at _ _ _ _ _ _ _ n d).trans (Eq.trans ?_ (Cert.Reference3Ideal.Merge.RX2_at _ _ _ _ d).symm)
  refine x2row_congr (fun k => rd3 m c t n k) (fun e => ?_) (fun k d => rd6 m c t k d) d
  refine Eq.trans ?_ (Cert.Reference3Ideal.Merge.MIX_at _ _ _ _ _ _ e).symm
  refine mixrow_congr (fun k => rd0 m c t n k) (fun d => ?_) (fun k => rd2 m c t n k) (fun k d => rd4 m c t k d) e
  exact (dot_congr (fun k => rd1 m c t n k) (fun k => rd5 m c t k d)).trans
    (sum_slots (fun k => arg1 m c (ix2 ⟨256 * t.val + n.val, h⟩ k)) (fun k => arg5 m c (ix2 k d)))

theorem h_at (c : Dev nD) (t : Fin cfg0.N) (n : Fin 256) (d : Fin 1024) (h : 256 * t.val + n.val < 16384) :
    k0_pay5 (F := Ideal) (k0_pay4 (F := Ideal) (iblk m c 2 t) (iblk m c 0 t) (iblk m c 4 t) (iblk m c 1 t) (iblk m c 5 t) (iblk m c 3 t) (iblk m c 6 t)) (iblk m c 7 t) (ix2 n d)
      = Ha m c (ix2 ⟨256 * t.val + n.val, h⟩ d) := by
  refine (pay5_at _ _ _ _ _ _ _ _ n d).trans (Eq.trans ?_ (Cert.Reference3Ideal.Merge.RH_at _ _ _ d).symm)
  exact nrm_congr (fun k => x2_at m c t n k h) (fun k => rd7 m c t k) d

theorem q_at (c : Dev nD) (t : Fin cfg0.N) (n : Fin 256) (j : Fin 2048) (h : 256 * t.val + n.val < 16384) :
    k0_pay6 (F := Ideal) (k0_pay4 (F := Ideal) (iblk m c 2 t) (iblk m c 0 t) (iblk m c 4 t) (iblk m c 1 t) (iblk m c 5 t) (iblk m c 3 t) (iblk m c 6 t)) (iblk m c 7 t) (iblk m c 8 t) (ix2 n j)
      = Qa m c (ix2 ⟨256 * t.val + n.val, h⟩ j) := by
  refine (pay6_at _ _ _ n j).trans (Eq.trans ?_ (Cert.Reference3Ideal.Merge.RQ_at _ _ _ j).symm)
  exact dot_congr (fun k => h_at m c t n k h) (fun k => rd8 m c t k j)

theorem final11 (c : Dev nD) : (dats m 0 c).arrAt 11 cfg0.N = X2a m c := by
  refine (dats m 0 c).arrAt_eq_of_covers 11 _ (by decide +kernel) fun t _ y => ?_
  blk_simp
  rw [after0_11]
  frame_out
  idx_vars y
  have ht := (idx t).2.2.2.2.2.2.2.2.2.2.2.2.2.2.2
  have e0 : (((cfg0.win 11).blk t).view.emb (ix2 y0 y1)) = ix2 ⟨256 * t.val + y0.val, by omega⟩ y1 := by
    blk_ext [idx t]
  exact (x2_at m c t y0 y1 (by omega)).trans (congrArg _ e0).symm

theorem final12 (c : Dev nD) : (dats m 0 c).arrAt 12 cfg0.N = Cert.Reference3Ideal.Merge.RHb (Ha m c) := by
  refine (dats m 0 c).arrAt_eq_of_covers 12 _ (by decide +kernel) fun t _ y => ?_
  blk_simp
  rw [after0_12]
  unfold_out out0_12
  frame_out
  idx_vars y
  have ht := (idx t).2.2.2.2.2.2.2.2.2.2.2.2.2.2.2
  have e0 : (((cfg0.win 12).blk t).view.emb (ix2 y0 y1)) = ix2 ⟨256 * t.val + y0.val, by omega⟩ y1 := by
    blk_ext [idx t]
  refine Eq.trans ?_ ((congrArg _ e0).trans (Cert.Reference3Ideal.Merge.RHb_at _ _ _)).symm
  exact h_at m c t y0 y1 (by omega)

theorem s1_0 (v : FVec Ideal S256x1024 .f32) (g : FVec Ideal S1x1024 .f32) (wq : FVec Ideal S1024x2048 .bf16) (k : FVec Ideal S128x128 .bf16) (x : S1x128x256.Idx) :
    k0_pay7 (F := Ideal) v g wq k x = ∑ d : Fin 128, k (ix2 (x 1) d) * (k0_pay6 (F := Ideal) v g wq) (ix2 (x 2) ⟨0 + d.val, by omega⟩) := by
  idx_vars x
  pointwise [k0_pay7]
theorem s1_1 (v : FVec Ideal S256x1024 .f32) (g : FVec Ideal S1x1024 .f32) (wq : FVec Ideal S1024x2048 .bf16) (k : FVec Ideal S128x128 .bf16) (x : S1x128x256.Idx) :
    k0_pay10 (F := Ideal) (k0_pay9 (F := Ideal) v g wq k) x = ∑ d : Fin 128, k (ix2 (x 1) d) * (k0_pay6 (F := Ideal) v g wq) (ix2 (x 2) ⟨256 + d.val, by omega⟩) := by
  idx_vars x
  pointwise [k0_pay9, k0_pay10]
theorem s1_2 (q : FVec Ideal S256x2048 .f32) (k : FVec Ideal S128x128 .bf16) (x : S1x128x256.Idx) :
    k0_pay12 (F := Ideal) q k x = ∑ d : Fin 128, k (ix2 (x 1) d) * q (ix2 (x 2) ⟨512 + d.val, by omega⟩) := by
  idx_vars x
  pointwise [k0_pay12]
theorem s1_3 (q : FVec Ideal S256x2048 .f32) (k : FVec Ideal S128x128 .bf16) (x : S1x128x256.Idx) :
    k0_pay15 (F := Ideal) (k0_pay14 (F := Ideal) q k) x = ∑ d : Fin 128, k (ix2 (x 1) d) * q (ix2 (x 2) ⟨768 + d.val, by omega⟩) := by
  idx_vars x
  pointwise [k0_pay14, k0_pay15]
theorem s1_4 (q : FVec Ideal S256x2048 .f32) (k : FVec Ideal S128x128 .bf16) (x : S1x128x256.Idx) :
    k0_pay17 (F := Ideal) q k x = ∑ d : Fin 128, k (ix2 (x 1) d) * q (ix2 (x 2) ⟨1024 + d.val, by omega⟩) := by
  idx_vars x
  pointwise [k0_pay17]
theorem s1_5 (q : FVec Ideal S256x2048 .f32) (k : FVec Ideal S128x128 .bf16) (x : S1x128x256.Idx) :
    k0_pay20 (F := Ideal) (k0_pay19 (F := Ideal) q k) x = ∑ d : Fin 128, k (ix2 (x 1) d) * q (ix2 (x 2) ⟨1280 + d.val, by omega⟩) := by
  idx_vars x
  pointwise [k0_pay19, k0_pay20]
theorem s1_6 (q : FVec Ideal S256x2048 .f32) (k : FVec Ideal S128x128 .bf16) (x : S1x128x256.Idx) :
    k0_pay22 (F := Ideal) q k x = ∑ d : Fin 128, k (ix2 (x 1) d) * q (ix2 (x 2) ⟨1536 + d.val, by omega⟩) := by
  idx_vars x
  pointwise [k0_pay22]
theorem s1_7 (q : FVec Ideal S256x2048 .f32) (k : FVec Ideal S128x128 .bf16) (x : S1x128x256.Idx) :
    k0_pay1 (F := Ideal) (k0_pay24 (F := Ideal) q k) x = ∑ d : Fin 128, k (ix2 (x 1) d) * q (ix2 (x 2) ⟨1792 + d.val, by omega⟩) := by
  idx_vars x
  pointwise [k0_pay24, k0_pay1]
theorem s2_0 (v : FVec Ideal S256x1024 .f32) (g : FVec Ideal S1x1024 .f32) (wq : FVec Ideal S1024x2048 .bf16) (k : FVec Ideal S128x128 .bf16) (x : S1x128x256.Idx) :
    k0_pay8 (F := Ideal) v g wq k x = ∑ d : Fin 128, k (ix2 (x 1) d) * (k0_pay6 (F := Ideal) v g wq) (ix2 (x 2) ⟨128 + d.val, by omega⟩) := by
  idx_vars x
  pointwise [k0_pay8]
theorem s2_1 (q : FVec Ideal S256x2048 .f32) (k : FVec Ideal S128x128 .bf16) (x : S1x128x256.Idx) :
    k0_pay11 (F := Ideal) q k x = ∑ d : Fin 128, k (ix2 (x 1) d) * q (ix2 (x 2) ⟨384 + d.val, by omega⟩) := by
  idx_vars x
  pointwise [k0_pay11]
theorem s2_2 (q : FVec Ideal S256x2048 .f32) (k : FVec Ideal S128x128 .bf16) (x : S1x128x256.Idx) :
    k0_pay13 (F := Ideal) q k x = ∑ d : Fin 128, k (ix2 (x 1) d) * q (ix2 (x 2) ⟨640 + d.val, by omega⟩) := by
  idx_vars x
  pointwise [k0_pay13]
theorem s2_3 (q : FVec Ideal S256x2048 .f32) (k : FVec Ideal S128x128 .bf16) (x : S1x128x256.Idx) :
    k0_pay16 (F := Ideal) q k x = ∑ d : Fin 128, k (ix2 (x 1) d) * q (ix2 (x 2) ⟨896 + d.val, by omega⟩) := by
  idx_vars x
  pointwise [k0_pay16]
theorem s2_4 (q : FVec Ideal S256x2048 .f32) (k : FVec Ideal S128x128 .bf16) (x : S1x128x256.Idx) :
    k0_pay18 (F := Ideal) q k x = ∑ d : Fin 128, k (ix2 (x 1) d) * q (ix2 (x 2) ⟨1152 + d.val, by omega⟩) := by
  idx_vars x
  pointwise [k0_pay18]
theorem s2_5 (q : FVec Ideal S256x2048 .f32) (k : FVec Ideal S128x128 .bf16) (x : S1x128x256.Idx) :
    k0_pay21 (F := Ideal) q k x = ∑ d : Fin 128, k (ix2 (x 1) d) * q (ix2 (x 2) ⟨1408 + d.val, by omega⟩) := by
  idx_vars x
  pointwise [k0_pay21]
theorem s2_6 (q : FVec Ideal S256x2048 .f32) (k : FVec Ideal S128x128 .bf16) (x : S1x128x256.Idx) :
    k0_pay23 (F := Ideal) q k x = ∑ d : Fin 128, k (ix2 (x 1) d) * q (ix2 (x 2) ⟨1664 + d.val, by omega⟩) := by
  idx_vars x
  pointwise [k0_pay23]
theorem s2_7 (q : FVec Ideal S256x2048 .f32) (k : FVec Ideal S128x128 .bf16) (x : S1x128x256.Idx) :
    k0_pay2 (F := Ideal) q k x = ∑ d : Fin 128, k (ix2 (x 1) d) * q (ix2 (x 2) ⟨1920 + d.val, by omega⟩) := by
  idx_vars x
  pointwise [k0_pay2]

theorem fin1 (c : Dev nD) (t : Fin cfg0.N) (y : S8x128x256.Idx) (x : S1x128x256.Idx) (h o : ℕ) (ho : o = 256 * h + 0) (hh : h < 8) (h0 : (y 0).val = h) (h1 : (y 1).val = (x 1).val)
    (h2 : (y 2).val = (x 2).val) :
    ∑ d : Fin 128, (show FVec Ideal S128x128 .bf16 from iblk m c 9 t) (ix2 (x 1) d)
        * k0_pay6 (F := Ideal) (k0_pay4 (F := Ideal) (iblk m c 2 t) (iblk m c 0 t) (iblk m c 4 t) (iblk m c 1 t) (iblk m c 5 t) (iblk m c 3 t) (iblk m c 6 t)) (iblk m c 7 t) (iblk m c 8 t)
          (ix2 (x 2) ⟨o + d.val, by omega⟩)
      = Cert.Reference3Ideal.Merge.RS1 (Qa m c) (arg9 m c) (((cfg0.win 13).blk t).view.emb y) := by
  have ht := (idx t).2.2.2.2.2.2.2.2.2.2.2.2.2.2.2
  have hx : (x 2).val < 256 := (x 2).isLt
  have e0 : (((cfg0.win 13).blk t).view.emb y) = ix3 (⟨h, hh⟩ : Fin 8) (x 1 : Fin 128) (⟨256 * t.val + (x 2).val, by omega⟩ : Fin 16384) := by
    blk_ext [idx t, h0, h1, h2]
  refine Eq.trans ?_ ((congrArg _ e0).trans (Cert.Reference3Ideal.Merge.RS1_at _ _ _ _ _)).symm
  refine dot_congr (fun d => rd9 m c t (x 1) d) (fun d => ?_)
  refine (q_at m c t (x 2) _ (by omega)).trans ?_
  exact congrArg (fun j => Qa m c (ix2 (⟨256 * t.val + (x 2).val, by omega⟩ : Fin 16384) j)) (Fin.ext (by simp only; omega))

theorem fin2 (c : Dev nD) (t : Fin cfg0.N) (y : S8x128x256.Idx) (x : S1x128x256.Idx) (h o : ℕ) (ho : o = 256 * h + 128) (hh : h < 8) (h0 : (y 0).val = h) (h1 : (y 1).val = (x 1).val)
    (h2 : (y 2).val = (x 2).val) :
    ∑ d : Fin 128, (show FVec Ideal S128x128 .bf16 from iblk m c 10 t) (ix2 (x 1) d)
        * k0_pay6 (F := Ideal) (k0_pay4 (F := Ideal) (iblk m c 2 t) (iblk m c 0 t) (iblk m c 4 t) (iblk m c 1 t) (iblk m c 5 t) (iblk m c 3 t) (iblk m c 6 t)) (iblk m c 7 t) (iblk m c 8 t)
          (ix2 (x 2) ⟨o + d.val, by omega⟩)
      = Cert.Reference3Ideal.Merge.RS2 (Qa m c) (arg10 m c) (((cfg0.win 14).blk t).view.emb y) := by
  have ht := (idx t).2.2.2.2.2.2.2.2.2.2.2.2.2.2.2
  have hx : (x 2).val < 256 := (x 2).isLt
  have e0 : (((cfg0.win 14).blk t).view.emb y) = ix3 (⟨h, hh⟩ : Fin 8) (x 1 : Fin 128) (⟨256 * t.val + (x 2).val, by omega⟩ : Fin 16384) := by
    blk_ext [idx t, h0, h1, h2]
  refine Eq.trans ?_ ((congrArg _ e0).trans (Cert.Reference3Ideal.Merge.RS2_at _ _ _ _ _)).symm
  refine dot_congr (fun d => rd10 m c t (x 1) d) (fun d => ?_)
  refine (q_at m c t (x 2) _ (by omega)).trans ?_
  exact congrArg (fun j => Qa m c (ix2 (⟨256 * t.val + (x 2).val, by omega⟩ : Fin 16384) j)) (Fin.ext (by simp only; omega))

end Cert.Kernel3Ideal.Merge
end
end
-- ==== Proof.MergeScores.lean ====
module

public import proofs.«01_k».proof.Proof.MergeStages

@[expose] public section
set_option maxRecDepth 16384
noncomputable section
open Idealize.ShloMosaic Idealize.ShloMosaic.TcCoe Idealize.SL.Sem
open Idealize.ShloMosaic.Pipeline (Dat)
namespace Cert.Kernel3Ideal.Merge
open Cert.Kernel3Ideal Cert.Kernel3Ideal.Gen Cert.Merge
variable (m : (ℓ : Loc nD τ sig) → Buf (Elt Ideal) ℓ)

theorem final13 (c : Dev nD) : (dats m 0 c).arrAt 13 cfg0.N = Cert.Reference3Ideal.Merge.RS1 (Qa m c) (arg9 m c) := by
  refine (dats m 0 c).arrAt_eq_of_covers 13 _ (by decide +kernel) fun t _ y => ?_
  blk_simp
  rw [after0_13]
  unfold_out out0_13
  simp (disch := decide) only [View.ld_unit_lit]
  canon_tiles x h
  · exact (s1_7 _ _ x).trans (fin1 m c t y x 7 1792 rfl (by decide) (by omega) h1 h2)
  · exact (s1_6 _ _ x).trans (fin1 m c t y x 6 1536 rfl (by decide) (by omega) h1 h2)
  · exact (s1_5 _ _ x).trans (fin1 m c t y x 5 1280 rfl (by decide) (by omega) h1 h2)
  · exact (s1_4 _ _ x).trans (fin1 m c t y x 4 1024 rfl (by decide) (by omega) h1 h2)
  · exact (s1_3 _ _ x).trans (fin1 m c t y x 3 768 rfl (by decide) (by omega) h1 h2)
  · exact (s1_2 _ _ x).trans (fin1 m c t y x 2 512 rfl (by decide) (by omega) h1 h2)
  · exact (s1_1 _ _ _ _ x).trans (fin1 m c t y x 1 256 rfl (by decide) (by omega) h1 h2)
  · exact (s1_0 _ _ _ _ x).trans (fin1 m c t y x 0 0 rfl (by decide) (by omega) h1 h2)

theorem final14 (c : Dev nD) : (dats m 0 c).arrAt 14 cfg0.N = Cert.Reference3Ideal.Merge.RS2 (Qa m c) (arg10 m c) := by
  refine (dats m 0 c).arrAt_eq_of_covers 14 _ (by decide +kernel) fun t _ y => ?_
  blk_simp
  rw [after0_14]
  unfold_out out0_14
  simp (disch := decide) only [View.ld_unit_lit]
  canon_tiles x h
  · exact (s2_7 _ _ x).trans (fin2 m c t y x 7 1920 rfl (by decide) (by omega) h1 h2)
  · exact (s2_6 _ _ x).trans (fin2 m c t y x 6 1664 rfl (by decide) (by omega) h1 h2)
  · exact (s2_5 _ _ x).trans (fin2 m c t y x 5 1408 rfl (by decide) (by omega) h1 h2)
  · exact (s2_4 _ _ x).trans (fin2 m c t y x 4 1152 rfl (by decide) (by omega) h1 h2)
  · exact (s2_3 _ _ x).trans (fin2 m c t y x 3 896 rfl (by decide) (by omega) h1 h2)
  · exact (s2_2 _ _ x).trans (fin2 m c t y x 2 640 rfl (by decide) (by omega) h1 h2)
  · exact (s2_1 _ _ x).trans (fin2 m c t y x 1 384 rfl (by decide) (by omega) h1 h2)
  · exact (s2_0 _ _ _ _ x).trans (fin2 m c t y x 0 128 rfl (by decide) (by omega) h1 h2)
end Cert.Kernel3Ideal.Merge
end
end
-- ==== Proof.MergeTie.lean ====
module

public import proofs.«01_k».proof.Defs
public import proofs.«01_k».proof.Proof.MergeScores
public import Idealize.ShloMosaic.Adequacy
public import Idealize.ShloMosaic.Init
public import Idealize.ShloMosaic.Lib.Quiescent

@[expose] public section

noncomputable section

namespace Cert.Proof

open Idealize.ShloMosaic Idealize.SL.Sem

section terms
open Cert.Reference3Ideal
variable (m : (ℓ : Loc nD τ sig) → Buf (Elt Ideal) ℓ) (c : Dev nD)

/-- The reference's residual stream after the merge, from its arguments. -/
abbrev mergeX2 : FVec Ideal S16384x1024 .f32 :=
  Merge.RX2 (m ((c.tc : Thread nD τ).loc main_arg3))
    (Merge.MIX (m ((c.tc : Thread nD τ).loc main_arg0)) (m ((c.tc : Thread nD τ).loc main_arg1))
      (m ((c.tc : Thread nD τ).loc main_arg2)) (m ((c.tc : Thread nD τ).loc main_arg4))
      (m ((c.tc : Thread nD τ).loc main_arg5)))
    (m ((c.tc : Thread nD τ).loc main_arg6))

/-- The reference's normalised stream and its query. -/
abbrev mergeH : FVec Ideal S16384x1024 .f32 := Merge.RH (mergeX2 m c) (m ((c.tc : Thread nD τ).loc main_arg7))
abbrev mergeQ : FVec Ideal S16384x2048 .f32 := Merge.RQ (mergeH m c) (m ((c.tc : Thread nD τ).loc main_arg8))

theorem merge_second : Cert.Reference3Ideal.Value.res_main_v46 m c = Merge.RHb (mergeH m c) := by
  unfold Cert.Reference3Ideal.Value.res_main_v46 mergeH mergeX2 Merge.RHb Merge.RH Merge.RX2 Merge.MIX
  rfl

theorem merge_third : Cert.Reference3Ideal.Value.res_main_v47 m c
    = Merge.RS1 (mergeQ m c) (m ((c.tc : Thread nD τ).loc main_arg9)) := by
  unfold Cert.Reference3Ideal.Value.res_main_v47 mergeQ mergeH mergeX2 Merge.RS1 Merge.RQ Merge.RH Merge.RX2 Merge.MIX
  rfl

theorem merge_fourth : Cert.Reference3Ideal.Value.res_main_v48 m c
    = Merge.RS2 (mergeQ m c) (m ((c.tc : Thread nD τ).loc main_arg10)) := by
  unfold Cert.Reference3Ideal.Value.res_main_v48 mergeQ mergeH mergeX2 Merge.RS2 Merge.RQ Merge.RH Merge.RX2 Merge.MIX
  rfl

end terms

/-- The reference of the merge ends without fault, its arguments and counters as they must be. -/
theorem quiescent_Reference3Ideal : Cert.quiescent_Reference3Ideal := fun m ρ _ =>
  (θ_run Cert.Reference3Ideal.defs _ _).mono
    (fun r h => ⟨fun c => (h c).2.2.2.2, sem_eq_zero_of_no_sems (by decide) r.2⟩)
    (Cert.Reference3Ideal.Value.run (F := Ideal) m ρ)

/-- The merge: the kernel's four results are the reference's. -/
theorem algebraic_Kernel3Ideal_Reference3Ideal : Cert.algebraic_Kernel3Ideal_Reference3Ideal := by
  intro m ρ m' ρ' _ hagree
  refine ⟨_, _, _, _, Cert.Kernel3Ideal.Value.run_blocks (F := Ideal) m ρ, ?_⟩
  refine (θ_run Cert.Reference3Ideal.defs _ _).mono (fun _ h c => ⟨?_, ?_, ?_, ?_, (h c).2.2.2.2⟩)
    (Cert.Reference3Ideal.Value.run (F := Ideal) m' ρ')
  · rw [(h c).1]
    simp only [hagree c]
    exact (Cert.Kernel3Ideal.Merge.final11 m c).symm
  · refine ((h c).2.1.trans (merge_second m' c)).trans ?_
    simp only [mergeH, mergeX2, hagree c]
    exact (Cert.Kernel3Ideal.Merge.final12 m c).symm
  · refine ((h c).2.2.1.trans (merge_third m' c)).trans ?_
    simp only [mergeQ, mergeH, mergeX2, hagree c]
    exact (Cert.Kernel3Ideal.Merge.final13 m c).symm
  · refine ((h c).2.2.2.1.trans (merge_fourth m' c)).trans ?_
    simp only [mergeQ, mergeH, mergeX2, hagree c]
    exact (Cert.Kernel3Ideal.Merge.final14 m c).symm

end Cert.Proof

end
-- ==== Proof.lean ====
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel4Ideal.Frame
public import proofs.«01_k».proof.Proof.Gen.Kernel5Ideal.Frame
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.DenseValue
public import proofs.«01_k».proof.Proof.InProjTie
public import proofs.«01_k».proof.Proof.MergeTie
public import Idealize.ShloMosaic.Adequacy
public import Idealize.ShloMosaic.Init
public import Idealize.ShloMosaic.Lib.Quiescent

@[expose] public section

noncomputable section

namespace Cert.Proof

open Idealize.ShloMosaic Idealize.SL.Sem

/-- The reference of the expert contraction ends without fault, its arguments and counters as they must be. -/
theorem quiescent_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The expert contraction: the kernel's result is the reference's. -/
theorem algebraic_KernelIdeal_ReferenceIdeal : Cert.algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.KernelIdeal.DenseValue.final m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Kernel5.Gen.facts, Cert.Kernel5Ideal.Gen.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ,
  fun m ρ _ => Cert.Kernel5.Gen.frame m ρ, fun m ρ _ => Cert.Kernel5Ideal.Gen.frame m ρ,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), (trivial : preserves_Kernel5_Kernel5Ideal)⟩

end Cert.Proof

end
